-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupRefIdeal (m : (ℓ : Loc Cert.GateupRefIdeal.nD Cert.GateupRefIdeal.τ Cert.GateupRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3)
      ∧ r.2.mem ((c.tc : Thread Cert.Gateup.nD Cert.Gateup.τ).loc Cert.Gateup.main_arg4) = m ((c.tc : Thread Cert.Gateup.nD Cert.Gateup.τ).loc Cert.Gateup.main_arg4)
      ∧ r.2.mem ((c.tc : Thread Cert.Gateup.nD Cert.Gateup.τ).loc Cert.Gateup.main_arg5) = m ((c.tc : Thread Cert.Gateup.nD Cert.Gateup.τ).loc Cert.Gateup.main_arg5))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
      ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4)
      ∧ r.2.mem ((c.tc : Thread Cert.GateupIdeal.nD Cert.GateupIdeal.τ).loc Cert.GateupIdeal.main_arg5) = m ((c.tc : Thread Cert.GateupIdeal.nD Cert.GateupIdeal.τ).loc Cert.GateupIdeal.main_arg5))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2)
      ∧ r.2.mem ((c.tc : Thread Cert.GateupRefIdeal.nD Cert.GateupRefIdeal.τ).loc Cert.GateupRefIdeal.main_arg3) = m ((c.tc : Thread Cert.GateupRefIdeal.nD Cert.GateupRefIdeal.τ).loc Cert.GateupRefIdeal.main_arg3)
      ∧ r.2.mem ((c.tc : Thread Cert.GateupRefIdeal.nD Cert.GateupRefIdeal.τ).loc Cert.GateupRefIdeal.main_arg4) = m ((c.tc : Thread Cert.GateupRefIdeal.nD Cert.GateupRefIdeal.τ).loc Cert.GateupRefIdeal.main_arg4)
      ∧ r.2.mem ((c.tc : Thread Cert.GateupRefIdeal.nD Cert.GateupRefIdeal.τ).loc Cert.GateupRefIdeal.main_arg5) = m ((c.tc : Thread Cert.GateupRefIdeal.nD Cert.GateupRefIdeal.τ).loc Cert.GateupRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1_0) = v0 c
          ∧ r.2.mem ((c.tc : Thread Cert.DownRefIdeal.nD Cert.DownRefIdeal.τ).loc Cert.DownRefIdeal.main_v1_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Gateup_GateupIdeal : Prop :=
  True

def algebraic_GateupIdeal_GateupRefIdeal [hGateupIdeal : Cert.GateupIdeal.Facts] [hGateupRefIdeal : Cert.GateupRefIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)
      ∧ m' ((c.tc : Thread Cert.GateupRefIdeal.nD Cert.GateupRefIdeal.τ).loc Cert.GateupRefIdeal.main_arg2) = m ((c.tc : Thread Cert.GateupIdeal.nD Cert.GateupIdeal.τ).loc Cert.GateupIdeal.main_arg2)
      ∧ m' ((c.tc : Thread Cert.GateupRefIdeal.nD Cert.GateupRefIdeal.τ).loc Cert.GateupRefIdeal.main_arg3) = m ((c.tc : Thread Cert.GateupIdeal.nD Cert.GateupIdeal.τ).loc Cert.GateupIdeal.main_arg3)
      ∧ m' ((c.tc : Thread Cert.GateupRefIdeal.nD Cert.GateupRefIdeal.τ).loc Cert.GateupRefIdeal.main_arg4) = m ((c.tc : Thread Cert.GateupIdeal.nD Cert.GateupIdeal.τ).loc Cert.GateupIdeal.main_arg4)
      ∧ m' ((c.tc : Thread Cert.GateupRefIdeal.nD Cert.GateupRefIdeal.τ).loc Cert.GateupRefIdeal.main_arg5) = m ((c.tc : Thread Cert.GateupIdeal.nD Cert.GateupIdeal.τ).loc Cert.GateupIdeal.main_arg5)) →
    ∃ (v0 : (c : Dev Cert.GateupIdeal.nD) → Buf (Elt Ideal) ((c.tc : Thread Cert.GateupIdeal.nD Cert.GateupIdeal.τ).loc Cert.GateupIdeal.main_v2_0)) (v1 : (c : Dev Cert.GateupIdeal.nD) → Buf (Elt Ideal) ((c.tc : Thread Cert.GateupIdeal.nD Cert.GateupIdeal.τ).loc Cert.GateupIdeal.main_v2_1)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v2_0) = v0 c
          ∧ r.2.mem ((c.tc : Thread Cert.GateupIdeal.nD Cert.GateupIdeal.τ).loc Cert.GateupIdeal.main_v2_1) = v1 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
          ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4)
          ∧ r.2.mem ((c.tc : Thread Cert.GateupIdeal.nD Cert.GateupIdeal.τ).loc Cert.GateupIdeal.main_arg5) = m ((c.tc : Thread Cert.GateupIdeal.nD Cert.GateupIdeal.τ).loc Cert.GateupIdeal.main_arg5))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v2_0) = v0 c
          ∧ r.2.mem ((c.tc : Thread Cert.GateupRefIdeal.nD Cert.GateupRefIdeal.τ).loc Cert.GateupRefIdeal.main_v2_1) = v1 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1)
          ∧ r.2.mem ((c.tc : Thread Cert.GateupRefIdeal.nD Cert.GateupRefIdeal.τ).loc Cert.GateupRefIdeal.main_arg2) = m' ((c.tc : Thread Cert.GateupRefIdeal.nD Cert.GateupRefIdeal.τ).loc Cert.GateupRefIdeal.main_arg2)
          ∧ r.2.mem ((c.tc : Thread Cert.GateupRefIdeal.nD Cert.GateupRefIdeal.τ).loc Cert.GateupRefIdeal.main_arg3) = m' ((c.tc : Thread Cert.GateupRefIdeal.nD Cert.GateupRefIdeal.τ).loc Cert.GateupRefIdeal.main_arg3)
          ∧ r.2.mem ((c.tc : Thread Cert.GateupRefIdeal.nD Cert.GateupRefIdeal.τ).loc Cert.GateupRefIdeal.main_arg4) = m' ((c.tc : Thread Cert.GateupRefIdeal.nD Cert.GateupRefIdeal.τ).loc Cert.GateupRefIdeal.main_arg4)
          ∧ r.2.mem ((c.tc : Thread Cert.GateupRefIdeal.nD Cert.GateupRefIdeal.τ).loc Cert.GateupRefIdeal.main_arg5) = m' ((c.tc : Thread Cert.GateupRefIdeal.nD Cert.GateupRefIdeal.τ).loc Cert.GateupRefIdeal.main_arg5))

def preserves_Oproj_OprojIdeal : Prop :=
  IdealRules.named_const.Statement Cert.OprojIdeal.κ "inv_width" .f32 0x39124925#32 ((1 / 7168 : ℝ) : EReal)

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v2_0)) (v1 : (c : Dev Cert.OprojIdeal.nD) → Buf (Elt Ideal) ((c.tc : Thread Cert.OprojIdeal.nD Cert.OprojIdeal.τ).loc Cert.OprojIdeal.main_v2_1)) (v2 : (c : Dev Cert.OprojIdeal.nD) → Buf (Elt Ideal) ((c.tc : Thread Cert.OprojIdeal.nD Cert.OprojIdeal.τ).loc Cert.OprojIdeal.main_v2_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2_0) = v0 c
          ∧ r.2.mem ((c.tc : Thread Cert.OprojIdeal.nD Cert.OprojIdeal.τ).loc Cert.OprojIdeal.main_v2_1) = v1 c
          ∧ r.2.mem ((c.tc : Thread Cert.OprojIdeal.nD Cert.OprojIdeal.τ).loc Cert.OprojIdeal.main_v2_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v2_0) = v0 c
          ∧ r.2.mem ((c.tc : Thread Cert.OprojRefIdeal.nD Cert.OprojRefIdeal.τ).loc Cert.OprojRefIdeal.main_v2_1) = v1 c
          ∧ r.2.mem ((c.tc : Thread Cert.OprojRefIdeal.nD Cert.OprojRefIdeal.τ).loc Cert.OprojRefIdeal.main_v2_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v23) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def Claim : Prop :=
  ∃ (hDown : Cert.Down.Facts) (hDownIdeal : Cert.DownIdeal.Facts) (hDownRefIdeal : Cert.DownRefIdeal.Facts) (hGateup : Cert.Gateup.Facts) (hGateupIdeal : Cert.GateupIdeal.Facts) (hGateupRefIdeal : Cert.GateupRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts),
    quiescent_Down (hDown := hDown)
    ∧ quiescent_DownIdeal (hDownIdeal := hDownIdeal)
    ∧ quiescent_DownRefIdeal (hDownRefIdeal := hDownRefIdeal)
    ∧ quiescent_Gateup (hGateup := hGateup)
    ∧ quiescent_GateupIdeal (hGateupIdeal := hGateupIdeal)
    ∧ quiescent_GateupRefIdeal (hGateupRefIdeal := hGateupRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_Down_DownIdeal
    ∧ algebraic_DownIdeal_DownRefIdeal (hDownIdeal := hDownIdeal) (hDownRefIdeal := hDownRefIdeal)
    ∧ preserves_Gateup_GateupIdeal
    ∧ algebraic_GateupIdeal_GateupRefIdeal (hGateupIdeal := hGateupIdeal) (hGateupRefIdeal := hGateupRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== Down.lean ====
abbrev S4096x18432 : Shape := ⟨2, ![4096, 18432]⟩
abbrev S4096x128 : Shape := ⟨2, ![4096, 128]⟩
abbrev S18432x7168 : Shape := ⟨2, ![18432, 7168]⟩
abbrev S7168 : Shape := ⟨1, ![7168]⟩
abbrev S4096x7168 : Shape := ⟨2, ![4096, 7168]⟩
abbrev S1x7168 : Shape := ⟨2, ![1, 7168]⟩
abbrev S512x18432 : Shape := ⟨2, ![512, 18432]⟩
abbrev S512x128 : Shape := ⟨2, ![512, 128]⟩
abbrev S18432x512 : Shape := ⟨2, ![18432, 512]⟩
abbrev S1x512 : Shape := ⟨2, ![1, 512]⟩
abbrev S512x512 : Shape := ⟨2, ![512, 512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S4096x18432, .fp8e4m3⟩
  | .hbm, ⟨1, _⟩ => ⟨S4096x128, .f32⟩
  | .hbm, ⟨2, _⟩ => ⟨S18432x7168, .fp8e4m3⟩
  | .hbm, ⟨3, _⟩ => ⟨S7168, .f32⟩
  | .hbm, ⟨4, _⟩ => ⟨S4096x7168, .f32⟩
  | .hbm, ⟨5, _⟩ => ⟨S4096x7168, .bf16⟩
  | .hbm, ⟨6, _⟩ => ⟨S4096x128, .f32⟩
  | .hbm, ⟨7, _⟩ => ⟨S1x7168, .f32⟩
  | .hbm, ⟨8, _⟩ => ⟨S4096x7168, .f32⟩
  | .hbm, ⟨9, _⟩ => ⟨S4096x7168, .bf16⟩
  | .local _ .vmem, ⟨0, _⟩ => ⟨S512x18432, .fp8e4m3⟩
  | .local _ .vmem, ⟨1, _⟩ => ⟨S512x18432, .fp8e4m3⟩
  | .local _ .vmem, ⟨2, _⟩ => ⟨S512x128, .f32⟩
  | .local _ .vmem, ⟨3, _⟩ => ⟨S512x128, .f32⟩
  | .local _ .vmem, ⟨4, _⟩ => ⟨S18432x512, .fp8e4m3⟩
  | .local _ .vmem, ⟨5, _⟩ => ⟨S18432x512, .fp8e4m3⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | _, _ => ⟨S4096x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x18432 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S18432x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownRefIdeal.lean ====
abbrev S4096x18432 : Shape := ⟨2, ![4096, 18432]⟩
abbrev S4096x128 : Shape := ⟨2, ![4096, 128]⟩
abbrev S18432x7168 : Shape := ⟨2, ![18432, 7168]⟩
abbrev S7168 : Shape := ⟨1, ![7168]⟩
abbrev S4096x7168 : Shape := ⟨2, ![4096, 7168]⟩
abbrev S1x7168 : Shape := ⟨2, ![1, 7168]⟩
abbrev S4096x1 : Shape := ⟨2, ![4096, 1]⟩

abbrev nBuf : Space → Nat
  | .hbm => 10
  | .vmem => 9
  | .smem => 0
  | _ => 0

abbrev bufTy : (tb : Table) → Fin (tcTables nBuf tb) → BufTy
  | .hbm, ⟨0, _⟩ => ⟨S4096x18432, .fp8e4m3⟩
  | .hbm, ⟨1, _⟩ => ⟨S4096x128, .f32⟩
  | .hbm, ⟨2, _⟩ => ⟨S18432x7168, .fp8e4m3⟩
  | .hbm, ⟨3, _⟩ => ⟨S7168, .f32⟩
  | .hbm, ⟨4, _⟩ => ⟨S4096x7168, .f32⟩
  | .hbm, ⟨5, _⟩ => ⟨S4096x7168, .bf16⟩
  | .hbm, ⟨6, _⟩ => ⟨S4096x128, .f32⟩
  | .hbm, ⟨7, _⟩ => ⟨S1x7168, .f32⟩
  | .hbm, ⟨8, _⟩ => ⟨S4096x7168, .f32⟩
  | .hbm, ⟨9, _⟩ => ⟨S4096x7168, .bf16⟩
  | .local _ .vmem, ⟨0, _⟩ => ⟨S4096x18432, .fp8e4m3⟩
  | .local _ .vmem, ⟨1, _⟩ => ⟨S4096x128, .f32⟩
  | .local _ .vmem, ⟨2, _⟩ => ⟨S18432x7168, .fp8e4m3⟩
  | .local _ .vmem, ⟨3, _⟩ => ⟨S1x7168, .f32⟩
  | .local _ .vmem, ⟨4, _⟩ => ⟨S4096x7168, .f32⟩
  | .local _ .vmem, ⟨5, _⟩ => ⟨S4096x7168, .bf16⟩
  | .local _ .vmem, ⟨6, _⟩ => ⟨S4096x128, .f32⟩
  | .local _ .vmem, ⟨7, _⟩ => ⟨S4096x7168, .f32⟩
  | .local _ .vmem, ⟨8, _⟩ => ⟨S4096x7168, .bf16⟩
  | _, _ => ⟨S4096x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Gateup.lean ====
abbrev S4096x7168 : Shape := ⟨2, ![4096, 7168]⟩
abbrev S4096x128 : Shape := ⟨2, ![4096, 128]⟩
abbrev S7168x18432 : Shape := ⟨2, ![7168, 18432]⟩
abbrev S18432 : Shape := ⟨1, ![18432]⟩
abbrev S1x18432 : Shape := ⟨2, ![1, 18432]⟩
abbrev S4096x18432 : Shape := ⟨2, ![4096, 18432]⟩
abbrev S512x7168 : Shape := ⟨2, ![512, 7168]⟩
abbrev S512x128 : Shape := ⟨2, ![512, 128]⟩
abbrev S7168x256 : Shape := ⟨2, ![7168, 256]⟩
abbrev S1x256 : Shape := ⟨2, ![1, 256]⟩
abbrev S512x256 : Shape := ⟨2, ![512, 256]⟩
abbrev S72x512x256 : Shape := ⟨3, ![72, 512, 256]⟩
abbrev S512 : Shape := ⟨1, ![512]⟩
abbrev S512x1 : Shape := ⟨2, ![512, 1]⟩
abbrev S1x252 : Shape := ⟨2, ![1, 252]⟩
abbrev S512x252 : Shape := ⟨2, ![512, 252]⟩
abbrev S1x512x256 : Shape := ⟨3, ![1, 512, 256]⟩

abbrev nBuf : Space → Nat
  | .hbm => 10
  | .vmem => 19
  | .smem => 0
  | _ => 0

abbrev bufTy : (tb : Table) → Fin (tcTables nBuf tb) → BufTy
  | .hbm, ⟨0, _⟩ => ⟨S4096x7168, .fp8e4m3⟩
  | .hbm, ⟨1, _⟩ => ⟨S4096x128, .f32⟩
  | .hbm, ⟨2, _⟩ => ⟨S7168x18432, .fp8e4m3⟩
  | .hbm, ⟨3, _⟩ => ⟨S7168x18432, .fp8e4m3⟩
  | .hbm, ⟨4, _⟩ => ⟨S18432, .f32⟩
  | .hbm, ⟨5, _⟩ => ⟨S18432, .f32⟩
  | .hbm, ⟨6, _⟩ => ⟨S1x18432, .f32⟩
  | .hbm, ⟨7, _⟩ => ⟨S1x18432, .f32⟩
  | .hbm, ⟨8, _⟩ => ⟨S4096x18432, .fp8e4m3⟩
  | .hbm, ⟨9, _⟩ => ⟨S4096x128, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x128, .f32⟩
  | .local _ .vmem, ⟨3, _⟩ => ⟨S512x128, .f32⟩
  | .local _ .vmem, ⟨4, _⟩ => ⟨S7168x256, .fp8e4m3⟩
  | .local _ .vmem, ⟨5, _⟩ => ⟨S7168x256, .fp8e4m3⟩
  | .local _ .vmem, ⟨6, _⟩ => ⟨S7168x256, .fp8e4m3⟩
  | .local _ .vmem, ⟨7, _⟩ => ⟨S7168x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x256, .fp8e4m3⟩
  | .local _ .vmem, ⟨13, _⟩ => ⟨S512x256, .fp8e4m3⟩
  | .local _ .vmem, ⟨14, _⟩ => ⟨S512x128, .f32⟩
  | .local _ .vmem, ⟨15, _⟩ => ⟨S512x128, .f32⟩
  | .local _ .vmem, ⟨16, _⟩ => ⟨S72x512x256, .f32⟩
  | .local _ .vmem, ⟨17, _⟩ => ⟨S512x128, .f32⟩
  | .local _ .vmem, ⟨18, _⟩ => ⟨S512x128, .f32⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![9, 72], ![false, false]⟩

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v14 : Index := Scalar.indexCast arg1
  let c0 : Index := 0#32
  let c0_7 : Index := 0#32
  ![v14.toNat, 0, 0]
def k0_cond4 (i : grid0.Coords) : BitVec 1 :=
  let arg0 : BitVec 32 := BitVec.ofNat 32 (i 0).val
  let c8_i32 : BitVec 32 := 8#32
  let v11 : BitVec 1 := Scalar.cmpi .slt arg0 c8_i32
  let v12 : BitVec 32 := Scalar.extui v11
  let c0_i32_6 : BitVec 32 := 0#32
  let v13 : BitVec 1 := Scalar.cmpi .ne v12 c0_i32_6
  v13

def k0_off2 (i : grid0.Coords) : Fin 3 → Nat :=
  let arg1 : BitVec 32 := BitVec.ofNat 32 (i 1).val
  let v35 : Index := Scalar.indexCast arg1
  let c0_19 : Index := 0#32
  let c0_20 : Index := 0#32
  ![v35.toNat, 0, 0]
def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg0 c7_i32
  let c71_i32 : BitVec 32 := 71#32
  let v1 : BitVec 32 := Scalar.select v0 c71_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg0 c7_i32
  let c71_i32 : BitVec 32 := 71#32
  let v1 : BitVec 32 := Scalar.select v0 c71_i32 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg0 c7_i32
  let c71_i32 : BitVec 32 := 71#32
  let v1 : BitVec 32 := Scalar.select v0 c71_i32 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .sgt arg0 c7_i32
  let c71_i32 : BitVec 32 := 71#32
  let v1 : BitVec 32 := Scalar.select v0 c71_i32 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7168x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateupRefIdeal.lean ====
abbrev S4096x7168 : Shape := ⟨2, ![4096, 7168]⟩
abbrev S4096x128 : Shape := ⟨2, ![4096, 128]⟩
abbrev S7168x18432 : Shape := ⟨2, ![7168, 18432]⟩
abbrev S18432 : Shape := ⟨1, ![18432]⟩
abbrev S1x18432 : Shape := ⟨2, ![1, 18432]⟩
abbrev S4096x18432 : Shape := ⟨2, ![4096, 18432]⟩
abbrev S4096x1 : Shape := ⟨2, ![4096, 1]⟩
abbrev S4096 : Shape := ⟨1, ![4096]⟩
abbrev S1x253 : Shape := ⟨2, ![1, 253]⟩
abbrev S4096x253 : Shape := ⟨2, ![4096, 253]⟩

abbrev nBuf : Space → Nat
  | .hbm => 10
  | .vmem => 8
  | .smem => 0
  | _ => 0

abbrev bufTy : (tb : Table) → Fin (tcTables nBuf tb) → BufTy
  | .hbm, ⟨0, _⟩ => ⟨S4096x7168, .fp8e4m3⟩
  | .hbm, ⟨1, _⟩ => ⟨S4096x128, .f32⟩
  | .hbm, ⟨2, _⟩ => ⟨S7168x18432, .fp8e4m3⟩
  | .hbm, ⟨3, _⟩ => ⟨S7168x18432, .fp8e4m3⟩
  | .hbm, ⟨4, _⟩ => ⟨S18432, .f32⟩
  | .hbm, ⟨5, _⟩ => ⟨S18432, .f32⟩
  | .hbm, ⟨6, _⟩ => ⟨S1x18432, .f32⟩
  | .hbm, ⟨7, _⟩ => ⟨S1x18432, .f32⟩
  | .hbm, ⟨8, _⟩ => ⟨S4096x18432, .fp8e4m3⟩
  | .hbm, ⟨9, _⟩ => ⟨S4096x128, .f32⟩
  | .local _ .vmem, ⟨0, _⟩ => ⟨S4096x7168, .fp8e4m3⟩
  | .local _ .vmem, ⟨1, _⟩ => ⟨S4096x128, .f32⟩
  | .local _ .vmem, ⟨2, _⟩ => ⟨S7168x18432, .fp8e4m3⟩
  | .local _ .vmem, ⟨3, _⟩ => ⟨S7168x18432, .fp8e4m3⟩
  | .local _ .vmem, ⟨4, _⟩ => ⟨S1x18432, .f32⟩
  | .local _ .vmem, ⟨5, _⟩ => ⟨S1x18432, .f32⟩
  | .local _ .vmem, ⟨6, _⟩ => ⟨S4096x18432, .fp8e4m3⟩
  | .local _ .vmem, ⟨7, _⟩ => ⟨S4096x128, .f32⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x18432 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x18432 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Oproj.lean ====
abbrev S4096x7680 : Shape := ⟨2, ![4096, 7680]⟩
abbrev S4096x128 : Shape := ⟨2, ![4096, 128]⟩
abbrev S7680x7168 : Shape := ⟨2, ![7680, 7168]⟩
abbrev S7168 : Shape := ⟨1, ![7168]⟩
abbrev S4096x7168 : Shape := ⟨2, ![4096, 7168]⟩
abbrev S1x7168 : Shape := ⟨2, ![1, 7168]⟩
abbrev S512x7680 : Shape := ⟨2, ![512, 7680]⟩
abbrev S512x128 : Shape := ⟨2, ![512, 128]⟩
abbrev S7680x512 : Shape := ⟨2, ![7680, 512]⟩
abbrev S1x512 : Shape := ⟨2, ![1, 512]⟩
abbrev S512x512 : Shape := ⟨2, ![512, 512]⟩
abbrev S512x7168 : Shape := ⟨2, ![512, 7168]⟩
abbrev S14x512x512 : Shape := ⟨3, ![14, 512, 512]⟩
abbrev S512x1 : Shape := ⟨2, ![512, 1]⟩
abbrev S1x512x512 : Shape := ⟨3, ![1, 512, 512]⟩
abbrev S512 : Shape := ⟨1, ![512]⟩
abbrev S1x252 : Shape := ⟨2, ![1, 252]⟩
abbrev S512x252 : Shape := ⟨2, ![512, 252]⟩

abbrev nBuf : Space → Nat
  | .hbm => 11
  | .vmem => 18
  | .smem => 0
  | _ => 0

abbrev bufTy : (tb : Table) → Fin (tcTables nBuf tb) → BufTy
  | .hbm, ⟨0, _⟩ => ⟨S4096x7680, .fp8e4m3⟩
  | .hbm, ⟨1, _⟩ => ⟨S4096x128, .f32⟩
  | .hbm, ⟨2, _⟩ => ⟨S7680x7168, .fp8e4m3⟩
  | .hbm, ⟨3, _⟩ => ⟨S7168, .f32⟩
  | .hbm, ⟨4, _⟩ => ⟨S4096x7168, .bf16⟩
  | .hbm, ⟨5, _⟩ => ⟨S7168, .f32⟩
  | .hbm, ⟨6, _⟩ => ⟨S1x7168, .f32⟩
  | .hbm, ⟨7, _⟩ => ⟨S1x7168, .f32⟩
  | .hbm, ⟨8, _⟩ => ⟨S4096x7168, .f32⟩
  | .hbm, ⟨9, _⟩ => ⟨S4096x7168, .fp8e4m3⟩
  | .hbm, ⟨10, _⟩ => ⟨S4096x128, .f32⟩
  | .local _ .vmem, ⟨0, _⟩ => ⟨S512x7680, .fp8e4m3⟩
  | .local _ .vmem, ⟨1, _⟩ => ⟨S512x7680, .fp8e4m3⟩
  | .local _ .vmem, ⟨2, _⟩ => ⟨S512x128, .f32⟩
  | .local _ .vmem, ⟨3, _⟩ => ⟨S512x128, .f32⟩
  | .local _ .vmem, ⟨4, _⟩ => ⟨S7680x512, .fp8e4m3⟩
  | .local _ .vmem, ⟨5, _⟩ => ⟨S7680x512, .fp8e4m3⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S1x7168, .f32⟩
  | .local _ .vmem, ⟨11, _⟩ => ⟨S512x512, .f32⟩
  | .local _ .vmem, ⟨12, _⟩ => ⟨S512x512, .f32⟩
  | .local _ .vmem, ⟨13, _⟩ => ⟨S512x7168, .fp8e4m3⟩
  | .local _ .vmem, ⟨14, _⟩ => ⟨S512x7168, .fp8e4m3⟩
  | .local _ .vmem, ⟨15, _⟩ => ⟨S512x128, .f32⟩
  | .local _ .vmem, ⟨16, _⟩ => ⟨S512x128, .f32⟩
  | .local _ .vmem, ⟨17, _⟩ => ⟨S14x512x512, .f32⟩
  | _, _ => ⟨S4096x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 14], ![false, false]⟩

def k0_off1 (i : grid0.Coords) : Fin 3 → Nat :=
  let arg1 : BitVec 32 := BitVec.ofNat 32 (i 1).val
  let v14 : Index := Scalar.indexCast arg1
  let c0_11 : Index := 0#32
  let c0_12 : Index := 0#32
  ![v14.toNat, 0, 0]
def k0_cond1 (i : grid0.Coords) : BitVec 1 :=
  let arg1 : BitVec 32 := BitVec.ofNat 32 (i 1).val
  let c13_i32 : BitVec 32 := 13#32
  let v18 : BitVec 1 := Scalar.cmpi .eq arg1 c13_i32
  let v19 : BitVec 32 := Scalar.extui v18
  let c0_i32 : BitVec 32 := 0#32
  let v20 : BitVec 1 := Scalar.cmpi .ne v19 c0_i32
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7680 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7680x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OprojIdeal.lean ====
variable {F : FTy → Type} [FloatOps F] [Named F]
def κ : String → Option EReal := fun
  | "inv_width" => some ((1 / 7168 : ℝ) : EReal)
  | _ => none
-- ==== OprojRefIdeal.lean ====
abbrev S4096x7680 : Shape := ⟨2, ![4096, 7680]⟩
abbrev S4096x128 : Shape := ⟨2, ![4096, 128]⟩
abbrev S7680x7168 : Shape := ⟨2, ![7680, 7168]⟩
abbrev S7168 : Shape := ⟨1, ![7168]⟩
abbrev S4096x7168 : Shape := ⟨2, ![4096, 7168]⟩
abbrev S1x7168 : Shape := ⟨2, ![1, 7168]⟩
abbrev S4096x1 : Shape := ⟨2, ![4096, 1]⟩
abbrev S4096 : Shape := ⟨1, ![4096]⟩
abbrev S1x253 : Shape := ⟨2, ![1, 253]⟩
abbrev S4096x253 : Shape := ⟨2, ![4096, 253]⟩

abbrev nBuf : Space → Nat
  | .hbm => 11
  | .vmem => 9
  | .smem => 0
  | _ => 0

abbrev bufTy : (tb : Table) → Fin (tcTables nBuf tb) → BufTy
  | .hbm, ⟨0, _⟩ => ⟨S4096x7680, .fp8e4m3⟩
  | .hbm, ⟨1, _⟩ => ⟨S4096x128, .f32⟩
  | .hbm, ⟨2, _⟩ => ⟨S7680x7168, .fp8e4m3⟩
  | .hbm, ⟨3, _⟩ => ⟨S7168, .f32⟩
  | .hbm, ⟨4, _⟩ => ⟨S4096x7168, .bf16⟩
  | .hbm, ⟨5, _⟩ => ⟨S7168, .f32⟩
  | .hbm, ⟨6, _⟩ => ⟨S1x7168, .f32⟩
  | .hbm, ⟨7, _⟩ => ⟨S1x7168, .f32⟩
  | .hbm, ⟨8, _⟩ => ⟨S4096x7168, .f32⟩
  | .hbm, ⟨9, _⟩ => ⟨S4096x7168, .fp8e4m3⟩
  | .hbm, ⟨10, _⟩ => ⟨S4096x128, .f32⟩
  | .local _ .vmem, ⟨0, _⟩ => ⟨S4096x7680, .fp8e4m3⟩
  | .local _ .vmem, ⟨1, _⟩ => ⟨S4096x128, .f32⟩
  | .local _ .vmem, ⟨2, _⟩ => ⟨S7680x7168, .fp8e4m3⟩
  | .local _ .vmem, ⟨3, _⟩ => ⟨S1x7168, .f32⟩
  | .local _ .vmem, ⟨4, _⟩ => ⟨S4096x7168, .bf16⟩
  | .local _ .vmem, ⟨5, _⟩ => ⟨S1x7168, .f32⟩
  | .local _ .vmem, ⟨6, _⟩ => ⟨S4096x7168, .f32⟩
  | .local _ .vmem, ⟨7, _⟩ => ⟨S4096x7168, .fp8e4m3⟩
  | .local _ .vmem, ⟨8, _⟩ => ⟨S4096x128, .f32⟩
  | _, _ => ⟨S4096x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x7680 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S4096x7168 : Shape := ⟨2, ![4096, 7168]⟩
abbrev S4096x128 : Shape := ⟨2, ![4096, 128]⟩
abbrev S7168x9600 : Shape := ⟨2, ![7168, 9600]⟩
abbrev S9600 : Shape := ⟨1, ![9600]⟩
abbrev S4096x80 : Shape := ⟨2, ![4096, 80]⟩
abbrev S1x9600 : Shape := ⟨2, ![1, 9600]⟩
abbrev S4096x9600 : Shape := ⟨2, ![4096, 9600]⟩
abbrev S512x7168 : Shape := ⟨2, ![512, 7168]⟩
abbrev S512x128 : Shape := ⟨2, ![512, 128]⟩
abbrev S7168x1920 : Shape := ⟨2, ![7168, 1920]⟩
abbrev S1x1920 : Shape := ⟨2, ![1, 1920]⟩
abbrev S512x80 : Shape := ⟨2, ![512, 80]⟩
abbrev S512x1920 : Shape := ⟨2, ![512, 1920]⟩
abbrev S512x1 : Shape := ⟨2, ![512, 1]⟩
abbrev S512x160 : Shape := ⟨2, ![512, 160]⟩

abbrev nBuf : Space → Nat
  | .hbm => 8
  | .vmem => 14
  | .smem => 0
  | _ => 0

abbrev bufTy : (tb : Table) → Fin (tcTables nBuf tb) → BufTy
  | .hbm, ⟨0, _⟩ => ⟨S4096x7168, .fp8e4m3⟩
  | .hbm, ⟨1, _⟩ => ⟨S4096x128, .f32⟩
  | .hbm, ⟨2, _⟩ => ⟨S7168x9600, .fp8e4m3⟩
  | .hbm, ⟨3, _⟩ => ⟨S9600, .f32⟩
  | .hbm, ⟨4, _⟩ => ⟨S4096x80, .f32⟩
  | .hbm, ⟨5, _⟩ => ⟨S4096x80, .f32⟩
  | .hbm, ⟨6, _⟩ => ⟨S1x9600, .f32⟩
  | .hbm, ⟨7, _⟩ => ⟨S4096x9600, .bf16⟩
  | .local _ .vmem, ⟨0, _⟩ => ⟨S512x7168, .fp8e4m3⟩
  | .local _ .vmem, ⟨1, _⟩ => ⟨S512x7168, .fp8e4m3⟩
  | .local _ .vmem, ⟨2, _⟩ => ⟨S512x128, .f32⟩
  | .local _ .vmem, ⟨3, _⟩ => ⟨S512x128, .f32⟩
  | .local _ .vmem, ⟨4, _⟩ => ⟨S7168x1920, .fp8e4m3⟩
  | .local _ .vmem, ⟨5, _⟩ => ⟨S7168x1920, .fp8e4m3⟩
  | .local _ .vmem, ⟨6, _⟩ => ⟨S1x1920, .f32⟩
  | .local _ .vmem, ⟨7, _⟩ => ⟨S1x1920, .f32⟩
  | .local _ .vmem, ⟨8, _⟩ => ⟨S512x80, .f32⟩
  | .local _ .vmem, ⟨9, _⟩ => ⟨S512x80, .f32⟩
  | .local _ .vmem, ⟨10, _⟩ => ⟨S512x80, .f32⟩
  | .local _ .vmem, ⟨11, _⟩ => ⟨S512x80, .f32⟩
  | .local _ .vmem, ⟨12, _⟩ => ⟨S512x1920, .bf16⟩
  | .local _ .vmem, ⟨13, _⟩ => ⟨S512x1920, .bf16⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x1920 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S4096x7168 : Shape := ⟨2, ![4096, 7168]⟩
abbrev S4096x128 : Shape := ⟨2, ![4096, 128]⟩
abbrev S7168x9600 : Shape := ⟨2, ![7168, 9600]⟩
abbrev S9600 : Shape := ⟨1, ![9600]⟩
abbrev S4096x80 : Shape := ⟨2, ![4096, 80]⟩
abbrev S1x9600 : Shape := ⟨2, ![1, 9600]⟩
abbrev S4096x9600 : Shape := ⟨2, ![4096, 9600]⟩
abbrev S4096x1 : Shape := ⟨2, ![4096, 1]⟩
abbrev S4096x8640 : Shape := ⟨2, ![4096, 8640]⟩
abbrev S4096x54x160 : Shape := ⟨3, ![4096, 54, 160]⟩
abbrev S4096x1x80 : Shape := ⟨3, ![4096, 1, 80]⟩
abbrev S4096x54x80 : Shape := ⟨3, ![4096, 54, 80]⟩
abbrev S4096x960 : Shape := ⟨2, ![4096, 960]⟩

abbrev nBuf : Space → Nat
  | .hbm => 30
  | .vmem => 5
  | .smem => 0
  | _ => 0

abbrev bufTy : (tb : Table) → Fin (tcTables nBuf tb) → BufTy
  | .hbm, ⟨0, _⟩ => ⟨S4096x7168, .fp8e4m3⟩
  | .hbm, ⟨1, _⟩ => ⟨S4096x128, .f32⟩
  | .hbm, ⟨2, _⟩ => ⟨S7168x9600, .fp8e4m3⟩
  | .hbm, ⟨3, _⟩ => ⟨S9600, .f32⟩
  | .hbm, ⟨4, _⟩ => ⟨S4096x80, .f32⟩
  | .hbm, ⟨5, _⟩ => ⟨S4096x80, .f32⟩
  | .hbm, ⟨6, _⟩ => ⟨S1x9600, .f32⟩
  | .hbm, ⟨7, _⟩ => ⟨S4096x9600, .f32⟩
  | .hbm, ⟨8, _⟩ => ⟨S4096x8640, .f32⟩
  | .hbm, ⟨9, _⟩ => ⟨S4096x54x160, .f32⟩
  | .hbm, ⟨10, _⟩ => ⟨S4096x1x80, .f32⟩
  | .hbm, ⟨11, _⟩ => ⟨S4096x1x80, .f32⟩
  | .hbm, ⟨12, _⟩ => ⟨S4096x54x80, .f32⟩
  | .hbm, ⟨13, _⟩ => ⟨S4096x54x80, .f32⟩
  | .hbm, ⟨14, _⟩ => ⟨S4096x54x80, .f32⟩
  | .hbm, ⟨15, _⟩ => ⟨S4096x54x80, .f32⟩
  | .hbm, ⟨16, _⟩ => ⟨S4096x54x80, .f32⟩
  | .hbm, ⟨17, _⟩ => ⟨S4096x54x80, .f32⟩
  | .hbm, ⟨18, _⟩ => ⟨S4096x54x80, .f32⟩
  | .hbm, ⟨19, _⟩ => ⟨S4096x54x80, .f32⟩
  | .hbm, ⟨20, _⟩ => ⟨S4096x54x80, .f32⟩
  | .hbm, ⟨21, _⟩ => ⟨S4096x54x80, .f32⟩
  | .hbm, ⟨22, _⟩ => ⟨S4096x54x80, .f32⟩
  | .hbm, ⟨23, _⟩ => ⟨S4096x54x80, .f32⟩
  | .hbm, ⟨24, _⟩ => ⟨S4096x54x160, .f32⟩
  | .hbm, ⟨25, _⟩ => ⟨S4096x8640, .f32⟩
  | .hbm, ⟨26, _⟩ => ⟨S4096x8640, .bf16⟩
  | .hbm, ⟨27, _⟩ => ⟨S4096x960, .f32⟩
  | .hbm, ⟨28, _⟩ => ⟨S4096x960, .bf16⟩
  | .hbm, ⟨29, _⟩ => ⟨S4096x9600, .bf16⟩
  | .local _ .vmem, ⟨0, _⟩ => ⟨S4096x7168, .fp8e4m3⟩
  | .local _ .vmem, ⟨1, _⟩ => ⟨S4096x128, .f32⟩
  | .local _ .vmem, ⟨2, _⟩ => ⟨S7168x9600, .fp8e4m3⟩
  | .local _ .vmem, ⟨3, _⟩ => ⟨S1x9600, .f32⟩
  | .local _ .vmem, ⟨4, _⟩ => ⟨S4096x9600, .f32⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x9600 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x9600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.DownSpec.lean ====
/- What one application of the down projection computes, entry by entry over the extended reals: the product of the
   token codes with the weight codes, rescaled by the token's scale and the output channel's scale, added to the
   attention branch (`delta`), and the residual row after adding the gated `delta` (`rows`). -/
module

public import proofs.«01_k».proof.Proof.Gen.DownIdeal
public import Idealize.ShloMosaic.Lib.Pipeline.ValueKit

@[expose] public section

set_option maxRecDepth 16384

noncomputable section

namespace Cert.DownSpec

open Idealize.ShloMosaic Idealize.ShloMosaic.TcCoe Idealize.SL.Sem Cert.DownIdeal

/-- Entry `(r, n)` of the change of the residual stream: attention part plus the rescaled product. -/
def delta (c4 : FVec Ideal S4096x18432 .fp8e4m3) (a4 : FVec Ideal S4096x128 .f32) (w : FVec Ideal S18432x7168 .fp8e4m3)
    (s : FVec Ideal S7168 .f32) (attn : FVec Ideal S4096x7168 .f32) : FVec Ideal S4096x7168 .f32 := fun j =>
  attn j + (∑ k : Fin 18432, c4 (ix2 (j 0) k) * w (ix2 k (j 1))) * a4 (ix2 (j 0) 0) * s (ix1 (j 1))

/-- Entry `(r, n)` of the new residual rows: the old row plus the gate times `delta`. -/
def rows (c4 : FVec Ideal S4096x18432 .fp8e4m3) (a4 : FVec Ideal S4096x128 .f32) (w : FVec Ideal S18432x7168 .fp8e4m3)
    (s : FVec Ideal S7168 .f32) (attn : FVec Ideal S4096x7168 .f32) (xs : FVec Ideal S4096x7168 .bf16)
    (gate : FVec Ideal S4096x128 .f32) : FVec Ideal S4096x7168 .bf16 := fun j =>
  xs j + gate (ix2 (j 0) 0) * delta c4 a4 w s attn j

theorem delta_congr {c4 c4' a4 a4' w w' s s' attn attn'} (h0 : c4 = c4') (h1 : a4 = a4') (h2 : w = w') (h3 : s = s')
    (h4 : attn = attn') : delta c4 a4 w s attn = delta c4' a4' w' s' attn' := by
  subst h0 h1 h2 h3 h4; rfl

theorem rows_congr {c4 c4' a4 a4' w w' s s' attn attn' xs xs' gate gate'} (h0 : c4 = c4') (h1 : a4 = a4') (h2 : w = w')
    (h3 : s = s') (h4 : attn = attn') (h5 : xs = xs') (h6 : gate = gate') :
    rows c4 a4 w s attn xs gate = rows c4' a4' w' s' attn' xs' gate' := by
  subst h0 h1 h2 h3 h4 h5 h6; rfl

end Cert.DownSpec

end
-- ==== Proof.DownKernel.lean ====
/- The result arrays of the tiled down projection: block `t` of either one is the block of `DownSpec.delta`
   (`DownSpec.rows`) it lands on, and the blocks tile the array. -/
module

public import proofs.«01_k».proof.Proof.Gen.DownIdeal.Frame
public import proofs.«01_k».proof.Proof.DownSpec
public import Idealize.ShloMosaic.Lib.Pipeline.ValueKit

@[expose] public section

set_option maxRecDepth 16384

noncomputable section

namespace Cert.DownIdeal.Result

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- Which block each window holds at grid point `t`. -/
theorem idx : ∀ t : Fin cfg0.N, win0_0.index t = ![t.val / 14, 0] ∧ win0_1.index t = ![t.val / 14, 0]
    ∧ win0_2.index t = ![0, t.val % 14] ∧ win0_3.index t = ![0, t.val % 14]
    ∧ win0_4.index t = ![t.val / 14, t.val % 14] ∧ win0_5.index t = ![t.val / 14, t.val % 14]
    ∧ win0_6.index t = ![t.val / 14, 0]
    ∧ win0_7.index t = ![t.val / 14, t.val % 14] ∧ win0_8.index t = ![t.val / 14, t.val % 14] :=
  (by decide +kernel : ∀ t : Fin grid0.N, _)

/-- The `delta` array after the run. -/
theorem final7 (c : Dev nD) : (dats m 0 c).arrAt 7 (cfgs 0).N
    = DownSpec.delta (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 7 _ (by decide +kernel) fun t _ y => ?_
  blk_simp
  rw [after0_7]
  frame_out
  pointwise [k0_pay1, DownSpec.delta]
  blk_point [iblk, V, idx t]

/-- The array of new residual rows after the run. -/
theorem final8 (c : Dev nD) : (dats m 0 c).arrAt 8 (cfgs 0).N
    = DownSpec.rows (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 8 _ (by decide +kernel) fun t _ y => ?_
  blk_simp
  rw [after0_8]
  frame_out
  pointwise [k0_pay1, k0_pay2, DownSpec.delta, DownSpec.rows]
  blk_point [iblk, V, idx t]

end Cert.DownIdeal.Result

end
-- ==== Proof.DownRefValue.lean ====
/- The result arrays of the reference's down projection: one grid point whose blocks are the whole arrays. -/
module

public import proofs.«01_k».proof.Proof.Gen.DownRefIdeal.Frame
public import proofs.«01_k».proof.Proof.DownSpec
public import Idealize.ShloMosaic.Lib.Pipeline.ValueKit

@[expose] public section

set_option maxRecDepth 16384

noncomputable section

namespace Cert.DownRefIdeal.Result

open Idealize.ShloMosaic Idealize.ShloMosaic.TcCoe Idealize.SL.Sem
open Idealize.ShloMosaic.Pipeline (Dat)
open Cert.DownRefIdeal Cert.DownRefIdeal.Gen

variable (m : (ℓ : Loc nD τ sig) → Buf (Elt Ideal) ℓ)

/-- Every window holds its whole array at the only grid point. -/
theorem idx : ∀ t : Fin cfg0.N, win0_0.index t = ![0, 0] ∧ win0_1.index t = ![0, 0]
    ∧ win0_2.index t = ![0, 0] ∧ win0_3.index t = ![0, 0]
    ∧ win0_4.index t = ![0, 0] ∧ win0_5.index t = ![0, 0]
    ∧ win0_6.index t = ![0, 0]
    ∧ win0_7.index t = ![0, 0] ∧ win0_8.index t = ![0, 0] :=
  (by decide +kernel : ∀ t : Fin grid0.N, _)

/-- The reference's `delta` array. -/
theorem final7 (c : Dev nD) : (dats m 0 c).arrAt 7 (cfgs 0).N
    = DownSpec.delta (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 7 _ (by decide +kernel) fun t _ y => ?_
  blk_simp
  rw [after0_7]
  frame_out
  pointwise [k0_pay1, DownSpec.delta]
  blk_point [iblk, V, idx t]

/-- The reference's new residual rows. -/
theorem final8 (c : Dev nD) : (dats m 0 c).arrAt 8 (cfgs 0).N
    = DownSpec.rows (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 8 _ (by decide +kernel) fun t _ y => ?_
  blk_simp
  rw [after0_8]
  frame_out
  pointwise [k0_pay1, k0_pay2, DownSpec.delta, DownSpec.rows]
  blk_point [iblk, V, idx t]

end Cert.DownRefIdeal.Result

end
-- ==== Proof.GateupBitsStep.lean ====
module

public import proofs.«01_k».proof.Proof.Gen.Gateup.Frame
public import proofs.«01_k».proof.Proof.Gen.Gateup.Skeleton
public import Idealize.ShloMosaic.Lib.Pipeline.ValueKit
public import Idealize.ShloMosaic.Lib.Pipeline.ReadBack

/-! What one grid point of the gate/up kernel does to its buffers, whatever the floats are. -/

@[expose] public section
set_option maxRecDepth 16384

noncomputable section

namespace Cert.Gateup.Result

open Cert.Gateup.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The boxes the body reads and writes -/

abbrev rAct : Rect S512x7168 := Rect.unit (s := S512x7168) ![0, 0] S512x7168.size inb_S512x7168_S512x7168_0_0
abbrev rCol : Rect S512x128 := Rect.unit (s := S512x128) ![0, 0] S512x1.size inb_S512x128_S512x1_0_0
abbrev rLane : Rect S512x128 := Rect.unit (s := S512x128) ![0, 0] S512x128.size inb_S512x128_S512x128_0_0
abbrev rWeight : Rect S7168x256 := Rect.unit (s := S7168x256) ![0, 0] S7168x256.size inb_S7168x256_S7168x256_0_0
abbrev rScale : Rect S1x256 := Rect.unit (s := S1x256) ![0, 0] S1x256.size inb_S1x256_S1x256_0_0
abbrev rTile : Rect S512x256 := Rect.unit (s := S512x256) ![0, 0] S512x256.size inb_S512x256_S512x256_0_0

/-! ## What the body leaves -/

/-- The third condition of the body: the point is the first of its row of points. -/
abbrev cond3 (i : grid0.Coords) : BitVec 1 :=
  Scalar.cmpi .ne (Scalar.extui (Scalar.cmpi .eq (BitVec.ofNat 32 (i 1).val) 0#32)) 0#32

/-- The point's tile of the gated product, from the point's blocks. -/
def tileAct (x0 : Vec F S512x7168 .fp8e4m3) (x1 : Vec F S512x128 .f32) (x2 x3 : Vec F S7168x256 .fp8e4m3) (x4 x5 : Vec F S1x256 .f32) : Vec F S1x512x256 .f32 :=
  k0_pay4 (View.ld x0 rAct) (View.ld x1 rCol) (View.ld x2 rWeight) (View.ld x4 rScale) (View.ld x3 rWeight) (View.ld x5 rScale)

/-- The running maximum after the point's tile, from the running maximum before it. -/
def tileMax (x0 : Vec F S512x7168 .fp8e4m3) (x1 : Vec F S512x128 .f32) (x2 x3 : Vec F S7168x256 .fp8e4m3) (x4 x5 : Vec F S1x256 .f32) (M : Vec F S512x128 .f32) : Vec F S512x128 .f32 :=
  k0_pay5 (View.ld x0 rAct) (View.ld x1 rCol) (View.ld x2 rWeight) (View.ld x4 rScale) (View.ld x3 rWeight) (View.ld x5 rScale) (View.ld M rLane)

/-- The reciprocal scales after the point. -/
def nextInv (i : grid0.Coords) (M I : Vec F S512x128 .f32) : Vec F S512x128 .f32 :=
  if k0_cond1 i = 1#1 then k0_pay8 (View.ld M rLane) else I

/-- The block of scales after the point. -/
def nextScale (i : grid0.Coords) (M y7 : Vec F S512x128 .f32) : Vec F S512x128 .f32 :=
  if k0_cond1 i = 1#1 then k0_pay7 (View.ld M rLane) else y7

/-- One slice of the tiles held. -/
def slice (i : grid0.Coords) (A : Vec F S72x512x256 .f32) : Vec F S1x512x256 .f32 := fun y => A (ix3 (i 1) (y 1) (y 2))

/-- The block of codes after the point. -/
def nextCodes (i : grid0.Coords) (A : Vec F S72x512x256 .f32) (M I : Vec F S512x128 .f32) (y6 : Vec F S512x256 .fp8e4m3) : Vec F S512x256 .fp8e4m3 :=
  if k0_cond2 i = 1#1 then k0_pay1 (slice i A) (View.ld (nextInv i M I) rCol) else y6

/-- The tiles held after the point. -/
def nextAct (i : grid0.Coords) (x0 : Vec F S512x7168 .fp8e4m3) (x1 : Vec F S512x128 .f32) (x2 x3 : Vec F S7168x256 .fp8e4m3) (x4 x5 : Vec F S1x256 .f32) (A : Vec F S72x512x256 .f32) : Vec F S72x512x256 .f32 :=
  if k0_cond4 i = 1#1 then fun y => if (y 0).val = (i 1).val then tileAct x0 x1 x2 x3 x4 x5 (ix3 0 (y 1) (y 2)) else A y else A

/-- The running maximum after the point. -/
def nextMax (i : grid0.Coords) (x0 : Vec F S512x7168 .fp8e4m3) (x1 : Vec F S512x128 .f32) (x2 x3 : Vec F S7168x256 .fp8e4m3) (x4 x5 : Vec F S1x256 .f32) (M : Vec F S512x128 .f32) : Vec F S512x128 .f32 :=
  if k0_cond4 i = 1#1 then tileMax x0 x1 x2 x3 x4 x5 (if cond3 i = 1#1 then k0_pay2 else M)
  else if cond3 i = 1#1 then k0_pay2 else M

/-- Which of the four conditions hold at a point. -/
theorem kinds : ∀ i : grid0.Coords,
    (k0_cond1 i = 1#1 ∧ k0_cond2 i = 1#1 ∧ cond3 i = 1#1 ∧ k0_cond4 i = 1#1)
    ∨ (k0_cond1 i = 1#1 ∧ k0_cond2 i = 1#1 ∧ cond3 i = 1#1 ∧ ¬ k0_cond4 i = 1#1)
    ∨ (¬ k0_cond1 i = 1#1 ∧ k0_cond2 i = 1#1 ∧ ¬ cond3 i = 1#1 ∧ k0_cond4 i = 1#1)
    ∨ (¬ k0_cond1 i = 1#1 ∧ k0_cond2 i = 1#1 ∧ ¬ cond3 i = 1#1 ∧ ¬ k0_cond4 i = 1#1)
    ∨ (¬ k0_cond1 i = 1#1 ∧ ¬ k0_cond2 i = 1#1 ∧ cond3 i = 1#1 ∧ k0_cond4 i = 1#1)
    ∨ (¬ k0_cond1 i = 1#1 ∧ ¬ k0_cond2 i = 1#1 ∧ ¬ cond3 i = 1#1 ∧ k0_cond4 i = 1#1) := by decide +kernel

theorem off1 : ∀ (i : grid0.Coords) (a : Fin 3), k0_off1 i a = ![(i 1).val, 0, 0] a := by decide +kernel
theorem off2 : ∀ (i : grid0.Coords) (a : Fin 3), k0_off2 i a = ![(i 1).val, 0, 0] a := by decide +kernel

/-- A buffer stored whole holds what was stored. -/
theorem read_store {sig : RefSig} {κ : Kind} {sp : Space} {S : Shape} {e : EltTy} {Val : EltTy → Type} [∀ e, Nonempty (Val e)] (v : View sig κ sp S e) (f : v.ty.Contents Val)
    {off : Fin S.rank → Nat} (inb : ∀ a, off a + S.size a ≤ S.size a) (w : S.Idx → Val e) (L : List (View.Piece Val S e)) (h : ∀ a, off a = 0) :
    v.read Val (v.writes Val f ((⟨Rect.unit off S.size inb, w⟩ : View.Piece Val S e) :: L)) = w :=
  (View.read_writes_eq_canon v f _ (fun y => ⟨_, List.mem_cons_self, by
    obtain rfl : off = fun _ => 0 := funext h
    show y ∈ (Rect.whole S).set; rw [Rect.set_whole]; exact Finset.mem_univ y⟩)).trans (View.canon_cons_unit_lit inb w L h)

/-- The slice of the tiles that the point reads back. -/
theorem ld_slice (i : grid0.Coords) (inb) (A : Vec F S72x512x256 .f32) :
    View.ld A (Rect.unit (s := S72x512x256) (k0_off1 i) S1x512x256.size inb) = slice i A := by
  funext y
  refine View.ld_unit_apply_of _ _ _ _ _ _ fun a => ?_
  rw [off1]
  fin_cases a
  · have : (y 0).val = 0 := by have := (y 0).isLt; change _ < 1 at this; omega
    show (i 1).val = (i 1).val + (y 0).val
    omega
  · show (y 1).val = 0 + (y 1).val; omega
  · show (y 2).val = 0 + (y 2).val; omega

/-- The tiles after one more was stored. -/
theorem read_put {sig : RefSig} {κ : Kind} {sp : Space} (v : View sig κ sp S72x512x256 .f32) (f : v.ty.Contents (Elt F)) (i : grid0.Coords) (inb) (p : Vec F S1x512x256 .f32) :
    v.read (Elt F) (v.writes (Elt F) f [⟨Rect.unit (s := S72x512x256) (k0_off2 i) S1x512x256.size inb, p⟩])
      = fun y => if (y 0).val = (i 1).val then p (ix3 0 (y 1) (y 2)) else v.read (Elt F) f y := by
  funext y
  by_cases hy : (y 0).val = (i 1).val
  · rw [if_pos hy]
    refine View.read_writes_cons_hit_of_coords v f (Rect.unit (s := S72x512x256) (k0_off2 i) S1x512x256.size inb) p [] (ix3 0 (y 1) (y 2)) _ fun a => ?_
    show (y a).val = k0_off2 i a + 1 * _
    rw [off2]
    fin_cases a
    · show (y 0).val = (i 1).val + 1 * 0; omega
    · show (y 1).val = 0 + 1 * (y 1).val; omega
    · show (y 2).val = 0 + 1 * (y 2).val; omega
  · rw [if_neg hy]
    refine View.read_writes_cons_miss_of_axis _ _ _ _ _ 0 (i 1).val 1 (off2 i 0) rfl rfl ?_
    omega

set_option maxHeartbeats 4000000 in
/-- One point of the kernel, on whole buffers at any contents. -/
theorem sound_kernel (c : Dev nD) (E : Set ℕ) (i : grid0.Coords) (arg2 : Memref sig .tc .vmem S512x7168 .fp8e4m3) (harg2 : arg2.IsWhole) (arg3 : Memref sig .tc .vmem S512x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .fp8e4m3) (harg8 : arg8.IsWhole) (arg9 : Memref sig .tc .vmem S512x128 .f32) (harg9 : arg9.IsWhole) (arg10 : Memref sig .tc .vmem S72x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x7168 .fp8e4m3) (x1 : Vec F S512x128 .f32) (x2 x3 : Vec F S7168x256 .fp8e4m3) (x4 x5 : Vec F S1x256 .f32) (y6 : Vec F S512x256 .fp8e4m3) (y7 : Vec F S512x128 .f32)
    (A : Vec F S72x512x256 .f32) (M I : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare A ∗ owns (c : Thread nD τ) arg11 fullShare M ∗ owns (c : Thread nD τ) arg12 fullShare I
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (nextCodes i A M I y6) ∗ owns (c : Thread nD τ) arg9 fullShare (nextScale i M y7) ∗ owns (c : Thread nD τ) arg10 fullShare (nextAct i x0 x1 x2 x3 x4 x5 A) ∗ owns (c : Thread nD τ) arg11 fullShare (nextMax i x0 x1 x2 x3 x4 x5 M) ∗ owns (c : Thread nD τ) arg12 fullShare (nextInv i M I)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]; unfold cc0_gateup_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  rcases kinds i with ⟨h1, h2, h3, h4⟩ | ⟨h1, h2, h3, h4⟩ | ⟨h1, h2, h3, h4⟩ | ⟨h1, h2, h3, h4⟩ | ⟨h1, h2, h3, h4⟩ | ⟨h1, h2, h3, h4⟩
  · sl_exec
    sl_step
    iapply Hk
    simp only [nextInv, nextScale, nextCodes, nextAct, nextMax, if_pos h1, if_pos h2, if_pos h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (View.readCov_fill _ _ _ _ _ (by decide)))
    isplitl [H7]
    · iexists _; isplitr; swap; · iexact H7
      ipureintro
      exact read_store _ _ _ _ _ (by decide)
    isplitl [H8]
    · iexists _; isplitr; swap; · iexact H8
      ipureintro
      exact read_put _ _ i _ _
    isplitl [H9]
    · iexists _; isplitr; swap; · iexact H9
      ipureintro
      exact (read_store _ _ _ _ _ (by decide)).trans (congrArg (k0_pay5 _ _ _ _ _ _) (View.readCov_fill _ _ _ _ _ (by decide)))
    iexists _; isplitr; swap; · iexact H10
    ipureintro
    exact read_store _ _ _ _ _ (by decide)
  · sl_exec
    sl_step
    iapply Hk
    simp only [nextInv, nextScale, nextCodes, nextAct, nextMax, if_pos h1, if_pos h2, if_pos h3, if_neg h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (View.readCov_fill _ _ _ _ _ (by decide)))
    isplitl [H7]
    · iexists _; isplitr; swap; · iexact H7
      ipureintro
      exact read_store _ _ _ _ _ (by decide)
    isplitl [H8]
    · iexists _; isplitr; swap; · iexact H8
      ipureintro
      exact rfl
    isplitl [H9]
    · iexists _; isplitr; swap; · iexact H9
      ipureintro
      exact read_store _ _ _ _ _ (by decide)
    iexists _; isplitr; swap; · iexact H10
    ipureintro
    exact read_store _ _ _ _ _ (by decide)
  · sl_exec
    sl_step
    iapply Hk
    simp only [nextInv, nextScale, nextCodes, nextAct, nextMax, if_neg h1, if_pos h2, if_neg h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (rfl))
    isplitl [H7]
    · iexists _; isplitr; swap; · iexact H7
      ipureintro
      exact rfl
    isplitl [H8]
    · iexists _; isplitr; swap; · iexact H8
      ipureintro
      exact read_put _ _ i _ _
    isplitl [H9]
    · iexists _; isplitr; swap; · iexact H9
      ipureintro
      exact read_store _ _ _ _ _ (by decide)
    iexists _; isplitr; swap; · iexact H10
    ipureintro
    exact rfl
  · sl_exec
    sl_step
    iapply Hk
    simp only [nextInv, nextScale, nextCodes, nextAct, nextMax, if_neg h1, if_pos h2, if_neg h3, if_neg h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (rfl))
    isplitl [H7]
    · iexists _; isplitr; swap; · iexact H7
      ipureintro
      exact rfl
    isplitl [H8]
    · iexists _; isplitr; swap; · iexact H8
      ipureintro
      exact rfl
    isplitl [H9]
    · iexists _; isplitr; swap; · iexact H9
      ipureintro
      exact rfl
    iexists _; isplitr; swap; · iexact H10
    ipureintro
    exact rfl
  · sl_exec
    sl_step
    iapply Hk
    simp only [nextInv, nextScale, nextCodes, nextAct, nextMax, if_neg h1, if_neg h2, if_pos h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact rfl
    isplitl [H7]
    · iexists _; isplitr; swap; · iexact H7
      ipureintro
      exact rfl
    isplitl [H8]
    · iexists _; isplitr; swap; · iexact H8
      ipureintro
      exact read_put _ _ i _ _
    isplitl [H9]
    · iexists _; isplitr; swap; · iexact H9
      ipureintro
      exact (read_store _ _ _ _ _ (by decide)).trans (congrArg (k0_pay5 _ _ _ _ _ _) (View.readCov_fill _ _ _ _ _ (by decide)))
    iexists _; isplitr; swap; · iexact H10
    ipureintro
    exact rfl
  · sl_exec
    sl_step
    iapply Hk
    simp only [nextInv, nextScale, nextCodes, nextAct, nextMax, if_neg h1, if_neg h2, if_neg h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact rfl
    isplitl [H7]
    · iexists _; isplitr; swap; · iexact H7
      ipureintro
      exact rfl
    isplitl [H8]
    · iexists _; isplitr; swap; · iexact H8
      ipureintro
      exact read_put _ _ i _ _
    isplitl [H9]
    · iexists _; isplitr; swap; · iexact H9
      ipureintro
      exact read_store _ _ _ _ _ (by decide)
    iexists _; isplitr; swap; · iexact H10
    ipureintro
    exact rfl

end Cert.Gateup.Result

end
-- ==== Proof.GateupBitsRun.lean ====
module

public import proofs.«01_k».proof.Proof.GateupBitsStep
public import proofs.«01_k».proof.Proof.Gen.Gateup.Frame
public import proofs.«01_k».proof.Proof.Gen.Gateup.Points
public import proofs.«01_k».proof.Proof.Gen.Gateup.Launch

/-! The run of the gate/up kernel over its grid. The tiles of one block of rows are kept until the next block's
points, which quantise and store them; here is what the kept buffers hold before every point, and the run. -/

@[expose] public section
set_option maxRecDepth 16384

noncomputable section

namespace Cert.Gateup.Result

open Cert.Gateup.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, read off the grid -/

theorem cond1_iff : ∀ t : Fin cfg0.N, k0_cond1 (grid0.coords t) = 1#1 ↔ (72 ≤ t.val ∧ t.val % 72 = 0) := by decide +kernel
theorem cond2_iff : ∀ t : Fin cfg0.N, k0_cond2 (grid0.coords t) = 1#1 ↔ 72 ≤ t.val := by decide +kernel
theorem cond3_iff : ∀ t : Fin cfg0.N, cond3 (grid0.coords t) = 1#1 ↔ t.val % 72 = 0 := by decide +kernel
theorem cond4_iff : ∀ t : Fin cfg0.N, k0_cond4 (grid0.coords t) = 1#1 ↔ t.val < 576 := by decide +kernel
theorem coord1 : ∀ t : Fin cfg0.N, (grid0.coords t 1).val = t.val % 72 := by decide +kernel
theorem idle6 : ∀ t : Fin cfg0.N, cfg0.idle 6 (cfg0.grid.coords t) = decide (t.val < 72) := by decide +kernel
theorem idle7 : ∀ t : Fin cfg0.N, cfg0.idle 7 (cfg0.grid.coords t) = decide (t.val < 72 ∨ t.val % 72 ≠ 0) := by decide +kernel
theorem flush6 : ∀ t : Fin cfg0.N, (cfg0.win 6).flush t = decide (72 ≤ t.val) := by decide +kernel
theorem flush7 : ∀ t : Fin cfg0.N, (cfg0.win 7).flush t = decide (72 ≤ t.val ∧ t.val % 72 = 71) := by decide +kernel

/-- The point numbered `n`. -/
def pt (n : ℕ) : Fin cfg0.N := ⟨n % 648, by have := Nat.mod_lt n (show 648 > 0 by decide); exact lt_of_lt_of_eq this N_0.symm⟩

theorem pt_val (t : Fin cfg0.N) : pt t.val = t :=
  Fin.ext (Nat.mod_eq_of_lt (lt_of_lt_of_eq t.isLt N_0))

/-! ## What the kept buffers hold -/

/-- The tile computed at point `n`. -/
def tile (c : Dev nD) (n : ℕ) : Vec F S1x512x256 .f32 :=
  tileAct (iblk m c 0 (pt n)) (iblk m c 1 (pt n)) (iblk m c 2 (pt n)) (iblk m c 3 (pt n)) (iblk m c 4 (pt n)) (iblk m c 5 (pt n))

/-- The running maximum of block row `i` after its first `j` tiles. -/
def maxAt (c : Dev nD) (i : ℕ) : ℕ → Vec F S512x128 .f32
  | 0 => k0_pay2
  | j + 1 => tileMax (iblk m c 0 (pt (72 * i + j))) (iblk m c 1 (pt (72 * i + j))) (iblk m c 2 (pt (72 * i + j))) (iblk m c 3 (pt (72 * i + j)))
      (iblk m c 4 (pt (72 * i + j))) (iblk m c 5 (pt (72 * i + j))) (maxAt c i j)

/-- The reciprocal scales of the block row before point `n`'s. -/
def invAt (c : Dev nD) (n : ℕ) : Vec F S512x128 .f32 := k0_pay8 (View.ld (maxAt m c (n / 72 - 1) 72) rLane)

/-- The scales of the block row before point `n`'s. -/
def scaleAt (c : Dev nD) (n : ℕ) : Vec F S512x128 .f32 := k0_pay7 (View.ld (maxAt m c (n / 72 - 1) 72) rLane)

/-- The codes stored at point `n`: those of the tile of 72 points before. -/
def codesAt (c : Dev nD) (n : ℕ) : Vec F S512x256 .fp8e4m3 := k0_pay1 (tile m c (n - 72)) (View.ld (invAt m c n) rCol)

/-- What the kept buffers hold before point `n`. -/
structure Kept (c : Dev nD) (n : ℕ) (A : Vec F S72x512x256 .f32) (M I : Vec F S512x128 .f32) : Prop where
  act : ∀ p : ℕ, p < n → p < 576 → (n ≤ p + 72 ∨ 504 ≤ p) → ∀ (y : Fin 512) (z : Fin 256),
    A (ix3 (⟨p % 72, Nat.mod_lt _ (by decide)⟩ : Fin 72) y z) = tile m c p (ix3 0 y z)
  max : 0 < n → n ≤ 576 → M = maxAt m c ((n - 1) / 72) ((n - 1) % 72 + 1)
  inv : 72 < n → I = invAt m c (n - 1)

section Step

variable {m} {c : Dev nD} {t : Fin cfg0.N} {A : Vec F S72x512x256 .f32} {M I : Vec F S512x128 .f32}

theorem Kept.max_row (h : Kept m c t.val A M I) (h72 : 72 ≤ t.val) (h0 : t.val % 72 = 0) : M = maxAt m c (t.val / 72 - 1) 72 := by
  have hN : t.val < 648 := lt_of_lt_of_eq t.isLt N_0
  have := h.max (by omega) (by omega)
  rw [this]
  congr 1 <;> omega

theorem Kept.nextInv (h : Kept m c t.val A M I) (h72 : 72 ≤ t.val) : nextInv (grid0.coords t) M I = invAt m c t.val := by
  unfold Result.nextInv
  by_cases h0 : t.val % 72 = 0
  · rw [if_pos ((cond1_iff t).2 ⟨h72, h0⟩), h.max_row h72 h0]; rfl
  · rw [if_neg (fun hc => h0 ((cond1_iff t).1 hc).2), h.inv (by omega)]
    unfold invAt
    rw [show (t.val - 1) / 72 = t.val / 72 by omega]

theorem Kept.slice (h : Kept m c t.val A M I) (h72 : 72 ≤ t.val) : slice (grid0.coords t) A = tile m c (t.val - 72) := by
  have hN : t.val < 648 := lt_of_lt_of_eq t.isLt N_0
  funext y
  have e := h.act (t.val - 72) (by omega) (by omega) (Or.inl (by omega)) (y 1) (y 2)
  have hi : (grid0.coords t 1 : Fin 72) = ⟨(t.val - 72) % 72, Nat.mod_lt _ (by decide)⟩ := Fin.ext ((coord1 t).trans (by show _ = (t.val - 72) % 72; omega))
  unfold Result.slice
  rw [hi]
  refine e.trans (congrArg (tile m c (t.val - 72)) ?_)
  funext a
  fin_cases a
  · exact (Subsingleton.elim (α := Fin 1) _ _)
  · rfl
  · rfl

theorem Kept.codes (h : Kept m c t.val A M I) (h72 : 72 ≤ t.val) (y6) : nextCodes (grid0.coords t) A M I y6 = codesAt m c t.val := by
  unfold nextCodes
  rw [if_pos ((cond2_iff t).2 h72), h.slice h72, h.nextInv h72]
  rfl

theorem Kept.scale (h : Kept m c t.val A M I) (h72 : 72 ≤ t.val) (h0 : t.val % 72 = 0) (y7) : nextScale (grid0.coords t) M y7 = scaleAt m c t.val := by
  unfold nextScale
  rw [if_pos ((cond1_iff t).2 ⟨h72, h0⟩), h.max_row h72 h0]
  rfl

/-- The kept buffers after a point. -/
theorem Kept.step (h : Kept m c t.val A M I) : Kept m c (t.val + 1)
    (nextAct (grid0.coords t) (iblk m c 0 t) (iblk m c 1 t) (iblk m c 2 t) (iblk m c 3 t) (iblk m c 4 t) (iblk m c 5 t) A)
    (nextMax (grid0.coords t) (iblk m c 0 t) (iblk m c 1 t) (iblk m c 2 t) (iblk m c 3 t) (iblk m c 4 t) (iblk m c 5 t) M)
    (Result.nextInv (grid0.coords t) M I) := by
  have hN : t.val < 648 := lt_of_lt_of_eq t.isLt N_0
  refine ⟨fun p hp hp' hw y z => ?_, fun _ hn => ?_, fun hn => ?_⟩
  · unfold nextAct
    by_cases ht : t.val < 576
    · rw [if_pos ((cond4_iff t).2 ht)]
      by_cases hpt : p = t.val
      · subst hpt
        refine (if_pos (coord1 t).symm).trans ?_
        unfold tile
        rw [pt_val]
        rfl
      · refine (if_neg (fun hc => ?_)).trans (h.act p (by omega) hp' (by omega) y z)
        have : p % 72 = t.val % 72 := hc.trans (coord1 t)
        omega
    · rw [if_neg (fun hc => ht ((cond4_iff t).1 hc))]
      exact h.act p (by omega) hp' (by omega) y z
  · unfold nextMax
    rw [if_pos ((cond4_iff t).2 (by omega))]
    rw [show (t.val + 1 - 1) / 72 = t.val / 72 by omega, show (t.val + 1 - 1) % 72 + 1 = t.val % 72 + 1 by omega]
    have e : (if cond3 (grid0.coords t) = 1#1 then k0_pay2 else M) = maxAt m c (t.val / 72) (t.val % 72) := by
      by_cases h0 : t.val % 72 = 0
      · rw [if_pos ((cond3_iff t).2 h0), h0]; rfl
      · rw [if_neg (fun hc => h0 ((cond3_iff t).1 hc)), h.max (by omega) (by omega)]
        congr 1 <;> omega
    rw [e, maxAt, show 72 * (t.val / 72) + t.val % 72 = t.val by omega, pt_val]
  · exact (h.nextInv (by omega)).trans (by rw [Nat.add_sub_cancel])

end Step

/-! ## The proof data -/

/-- The kept buffers, at what they hold before point `n`. -/
def keptAt (c : Dev nD) (n : ℕ) : sProp 𝕄 :=
  iprop((∃ A : Vec F S72x512x256 .f32, ∃ M : Vec F S512x128 .f32, ∃ I : Vec F S512x128 .f32, ⌜Kept m c n A M I⌝
    ∗ owns (c : Thread nD τ) (Memref.whole cc0_scratch0) fullShare A
    ∗ owns (c : Thread nD τ) (Memref.whole cc0_scratch1) fullShare M
    ∗ owns (c : Thread nD τ) (Memref.whole cc0_scratch2) fullShare I) ∗ ∃ r, prngReg c r)

/-- The proof data: inputs stay at their blocks, the codes and the scales are those of the block row before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t.val
    | ⟨7, _⟩ => scaleAt m c t.val
  Φ t := keptAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t.val := by dsimp only [dats]
theorem after0_7 (c : Dev nD) (t : Fin cfg0.N) : (dats m 0 c).after 7 t = scaleAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Between the point that stores a block row's scales and the point that writes them back, they stay. -/
theorem before0_7 (c : Dev nD) (d) : ∀ (n : ℕ) (hn : n < cfg0.N), 72 ≤ n → n % 72 ≠ 0 → (dats m 0 c).before 7 ⟨n, hn⟩ d = scaleAt m c n := by
  intro n
  induction n with
  | zero => intro _ h; omega
  | succ n ih =>
    intro hn h72 h0
    rw [(dats m 0 c).before_of_pos 7 ⟨n + 1, hn⟩ (Nat.succ_ne_zero n) rfl d]
    have hf : (cfg0.win 7).flush ⟨n + 1 - 1, Nat.lt_of_le_of_lt (Nat.sub_le _ _) hn⟩ = false :=
      (flush7 _).trans (decide_eq_false (by show ¬ (72 ≤ n ∧ n % 72 = 71); omega))
    rw [hf, if_neg Bool.false_ne_true]
    have hn' : n < cfg0.N := by omega
    have hs : scaleAt m c (n + 1) = scaleAt m c n := by unfold scaleAt; rw [show (n + 1) / 72 = n / 72 by omega]
    rw [hs]
    change (dats m 0 c).left 7 ⟨n, hn'⟩ d = _
    have hi := idle7 ⟨n, hn'⟩
    unfold Dat.left
    by_cases hz : n % 72 = 0
    · rw [show cfg0.idle 7 (cfg0.grid.coords ⟨n, hn'⟩) = false from hi.trans (decide_eq_false (by show ¬ (n < 72 ∨ n % 72 ≠ 0); omega))]
      unfold Dat.kept
      rw [after0_7]
      exact (cfg0.win 7).fill_cut _ (scaleAt m c n)
    · rw [show cfg0.idle 7 (cfg0.grid.coords ⟨n, hn'⟩) = true from hi.trans (decide_eq_true (by show n < 72 ∨ n % 72 ≠ 0; omega))]
      exact ih hn' (by omega) hz

/-! ## The body obligation -/

theorem codes_left (c : Dev nD) (t : Fin cfg0.N) (A M I d) (h : Kept m c t.val A M I) :
    (owns (c : Thread nD τ) (st0_6 t) fullShare (nextCodes (grid0.coords t) A M I ((dats m 0 c).before 6 t d)) : sProp 𝕄) ⊢ (dats m 0 c).leavesExact 6 t := by
  by_cases ht : t.val < 72
  · rw [(dats m 0 c).leavesExact_idle 6 t ((idle6 t).trans (decide_eq_true ht)) ((flush6 t).trans (decide_eq_false (by omega)))]
    unfold nextCodes
    rw [if_neg (fun hc => by have := (cond2_iff t).1 hc; omega)]
    iintro H; iexists d; iexact H
  · rw [h.codes (by omega)]
    unfold Dat.leavesExact
    rw [show cfg0.idle 6 (cfg0.grid.coords t) = false from (idle6 t).trans (decide_eq_false ht), after0_6]

theorem scale_left (c : Dev nD) (t : Fin cfg0.N) (A M I d) (h : Kept m c t.val A M I) :
    (owns (c : Thread nD τ) (st0_7 t) fullShare (nextScale (grid0.coords t) M ((dats m 0 c).before 7 t d)) : sProp 𝕄) ⊢ (dats m 0 c).leavesExact 7 t := by
  by_cases h0 : 72 ≤ t.val ∧ t.val % 72 = 0
  · rw [h.scale h0.1 h0.2]
    unfold Dat.leavesExact
    rw [show cfg0.idle 7 (cfg0.grid.coords t) = false from (idle7 t).trans (decide_eq_false (by omega)), after0_7]
  · have hs : nextScale (grid0.coords t) M ((dats m 0 c).before 7 t d) = (dats m 0 c).before 7 t d := by
      unfold nextScale
      rw [if_neg (fun hc => h0 ((cond1_iff t).1 hc))]
    rw [hs]
    have hi : cfg0.idle 7 (cfg0.grid.coords t) = true := (idle7 t).trans (decide_eq_true (by omega))
    by_cases hf : 72 ≤ t.val ∧ t.val % 72 = 71
    · rw [before0_7 m c d t.val t.isLt hf.1 (by omega)]
      unfold Dat.leavesExact
      rw [hi, show (cfg0.win 7).flush t = true from (flush7 t).trans (decide_eq_true hf), after0_7]
    · rw [(dats m 0 c).leavesExact_idle 7 t hi ((flush7 t).trans (decide_eq_false hf))]
      iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = keptAt m c (t.val + 1) from rfl, show (dats m 0 c).Φ t.castSucc = keptAt m c t.val from rfl,
    show (dats m 0 c).owesAt () t.succ = (dats m 0 c).owesAt () t.castSucc from rfl,
    after0_0, after0_1, after0_2, after0_3, after0_4, after0_5]
  unfold keptAt
  iintro ⟨⟨⟨%A, %M, %I, %hK, HA, HM, HI⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) A M I _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HM]; · iexact HM
  isplitl [HI]; · iexact HI
  iintro ⟨H0, H1, H2, H3, H4, H5, H6, H7, HA, HM, HI⟩
  isplitl [HA HM HI Hr]
  · isplitl [HA HM HI]
    · iexists _; iexists _; iexists _
      isplitr
      · ipureintro; exact hK.step
      isplitl [HA]; · iexact HA
      isplitl [HM]; · iexact HM
      iexact HI
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (codes_left m c t A M I d6 hK); iexact H6
  · iapply (scale_left m c t A M I d7 hK); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem kept_in (c : Dev nD) : Pipeline.ΦA spec0 c ⊢ (dats m 0 c).Φ 0 := by
  unfold Pipeline.ΦA
  rw [scopedRest0_eq, show (dats m 0 c).Φ 0 = keptAt m c 0 from rfl]
  unfold keptAt
  iintro ⟨⟨⟨%A, HA⟩, ⟨%M, HM⟩, ⟨%I, HI⟩⟩, Hr⟩
  isplitl [HA HM HI]
  · iexists A; iexists M; iexists I
    isplitr
    · ipureintro; exact ⟨fun p hp => absurd hp (Nat.not_lt_zero _), fun h => absurd h (Nat.lt_irrefl _), fun h => absurd h (by decide)⟩
    rw [owns_whole, owns_whole, owns_whole]
    isplitl [HA]; · iexact HA
    isplitl [HM]; · iexact HM
    iexact HI
  · iexact Hr

theorem kept_out (c : Dev nD) : (dats m 0 c).Φ (Fin.last cfg0.N) ⊢ Pipeline.ΦA spec0 c := by
  unfold Pipeline.ΦA
  rw [scopedRest0_eq, show (dats m 0 c).Φ (Fin.last cfg0.N) = keptAt m c cfg0.N from rfl]
  unfold keptAt
  simp only [owns_whole]
  iintro ⟨⟨%A, %M, %I, -, HA, HM, HI⟩, Hr⟩
  isplitl [HA HM HI]
  · isplitl [HA]; · iexists A; iexact HA
    isplitl [HM]; · iexists M; iexact HM
    iexists I; iexact HI
  · iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := kept_in m) (hout := kept_out m)

/-- Every execution ends, with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim: every execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Gateup.Result

end
-- ==== Proof.GateupStep.lean ====
module

public import proofs.«01_k».proof.Proof.Gen.GateupIdeal.Frame
public import proofs.«01_k».proof.Proof.Gen.GateupIdeal.Skeleton
public import Idealize.ShloMosaic.Lib.Pipeline.ValueKit
public import Idealize.ShloMosaic.Lib.Pipeline.ReadBack

/-! What one grid point of the gate/up kernel does to its buffers, whatever the floats are. -/

@[expose] public section
set_option maxRecDepth 16384

noncomputable section

namespace Cert.GateupIdeal.Result

open Cert.GateupIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The boxes the body reads and writes -/

abbrev rAct : Rect S512x7168 := Rect.unit (s := S512x7168) ![0, 0] S512x7168.size inb_S512x7168_S512x7168_0_0
abbrev rCol : Rect S512x128 := Rect.unit (s := S512x128) ![0, 0] S512x1.size inb_S512x128_S512x1_0_0
abbrev rLane : Rect S512x128 := Rect.unit (s := S512x128) ![0, 0] S512x128.size inb_S512x128_S512x128_0_0
abbrev rWeight : Rect S7168x256 := Rect.unit (s := S7168x256) ![0, 0] S7168x256.size inb_S7168x256_S7168x256_0_0
abbrev rScale : Rect S1x256 := Rect.unit (s := S1x256) ![0, 0] S1x256.size inb_S1x256_S1x256_0_0
abbrev rTile : Rect S512x256 := Rect.unit (s := S512x256) ![0, 0] S512x256.size inb_S512x256_S512x256_0_0

/-! ## What the body leaves -/

/-- The third condition of the body: the point is the first of its row of points. -/
abbrev cond3 (i : grid0.Coords) : BitVec 1 :=
  Scalar.cmpi .ne (Scalar.extui (Scalar.cmpi .eq (BitVec.ofNat 32 (i 1).val) 0#32)) 0#32

/-- The point's tile of the gated product, from the point's blocks. -/
def tileAct (x0 : Vec F S512x7168 .fp8e4m3) (x1 : Vec F S512x128 .f32) (x2 x3 : Vec F S7168x256 .fp8e4m3) (x4 x5 : Vec F S1x256 .f32) : Vec F S1x512x256 .f32 :=
  k0_pay4 (View.ld x0 rAct) (View.ld x1 rCol) (View.ld x2 rWeight) (View.ld x4 rScale) (View.ld x3 rWeight) (View.ld x5 rScale)

/-- The running maximum after the point's tile, from the running maximum before it. -/
def tileMax (x0 : Vec F S512x7168 .fp8e4m3) (x1 : Vec F S512x128 .f32) (x2 x3 : Vec F S7168x256 .fp8e4m3) (x4 x5 : Vec F S1x256 .f32) (M : Vec F S512x128 .f32) : Vec F S512x128 .f32 :=
  k0_pay5 (View.ld x0 rAct) (View.ld x1 rCol) (View.ld x2 rWeight) (View.ld x4 rScale) (View.ld x3 rWeight) (View.ld x5 rScale) (View.ld M rLane)

/-- The reciprocal scales after the point. -/
def nextInv (i : grid0.Coords) (M I : Vec F S512x128 .f32) : Vec F S512x128 .f32 :=
  if k0_cond1 i = 1#1 then k0_pay8 (View.ld M rLane) else I

/-- The block of scales after the point. -/
def nextScale (i : grid0.Coords) (M y7 : Vec F S512x128 .f32) : Vec F S512x128 .f32 :=
  if k0_cond1 i = 1#1 then k0_pay7 (View.ld M rLane) else y7

/-- One slice of the tiles held. -/
def slice (i : grid0.Coords) (A : Vec F S72x512x256 .f32) : Vec F S1x512x256 .f32 := fun y => A (ix3 (i 1) (y 1) (y 2))

/-- The block of codes after the point. -/
def nextCodes (i : grid0.Coords) (A : Vec F S72x512x256 .f32) (M I : Vec F S512x128 .f32) (y6 : Vec F S512x256 .fp8e4m3) : Vec F S512x256 .fp8e4m3 :=
  if k0_cond2 i = 1#1 then k0_pay1 (slice i A) (View.ld (nextInv i M I) rCol) else y6

/-- The tiles held after the point. -/
def nextAct (i : grid0.Coords) (x0 : Vec F S512x7168 .fp8e4m3) (x1 : Vec F S512x128 .f32) (x2 x3 : Vec F S7168x256 .fp8e4m3) (x4 x5 : Vec F S1x256 .f32) (A : Vec F S72x512x256 .f32) : Vec F S72x512x256 .f32 :=
  if k0_cond4 i = 1#1 then fun y => if (y 0).val = (i 1).val then tileAct x0 x1 x2 x3 x4 x5 (ix3 0 (y 1) (y 2)) else A y else A

/-- The running maximum after the point. -/
def nextMax (i : grid0.Coords) (x0 : Vec F S512x7168 .fp8e4m3) (x1 : Vec F S512x128 .f32) (x2 x3 : Vec F S7168x256 .fp8e4m3) (x4 x5 : Vec F S1x256 .f32) (M : Vec F S512x128 .f32) : Vec F S512x128 .f32 :=
  if k0_cond4 i = 1#1 then tileMax x0 x1 x2 x3 x4 x5 (if cond3 i = 1#1 then k0_pay2 else M)
  else if cond3 i = 1#1 then k0_pay2 else M

/-- Which of the four conditions hold at a point. -/
theorem kinds : ∀ i : grid0.Coords,
    (k0_cond1 i = 1#1 ∧ k0_cond2 i = 1#1 ∧ cond3 i = 1#1 ∧ k0_cond4 i = 1#1)
    ∨ (k0_cond1 i = 1#1 ∧ k0_cond2 i = 1#1 ∧ cond3 i = 1#1 ∧ ¬ k0_cond4 i = 1#1)
    ∨ (¬ k0_cond1 i = 1#1 ∧ k0_cond2 i = 1#1 ∧ ¬ cond3 i = 1#1 ∧ k0_cond4 i = 1#1)
    ∨ (¬ k0_cond1 i = 1#1 ∧ k0_cond2 i = 1#1 ∧ ¬ cond3 i = 1#1 ∧ ¬ k0_cond4 i = 1#1)
    ∨ (¬ k0_cond1 i = 1#1 ∧ ¬ k0_cond2 i = 1#1 ∧ cond3 i = 1#1 ∧ k0_cond4 i = 1#1)
    ∨ (¬ k0_cond1 i = 1#1 ∧ ¬ k0_cond2 i = 1#1 ∧ ¬ cond3 i = 1#1 ∧ k0_cond4 i = 1#1) := by decide +kernel

theorem off1 : ∀ (i : grid0.Coords) (a : Fin 3), k0_off1 i a = ![(i 1).val, 0, 0] a := by decide +kernel
theorem off2 : ∀ (i : grid0.Coords) (a : Fin 3), k0_off2 i a = ![(i 1).val, 0, 0] a := by decide +kernel

/-- A buffer stored whole holds what was stored. -/
theorem read_store {sig : RefSig} {κ : Kind} {sp : Space} {S : Shape} {e : EltTy} {Val : EltTy → Type} [∀ e, Nonempty (Val e)] (v : View sig κ sp S e) (f : v.ty.Contents Val)
    {off : Fin S.rank → Nat} (inb : ∀ a, off a + S.size a ≤ S.size a) (w : S.Idx → Val e) (L : List (View.Piece Val S e)) (h : ∀ a, off a = 0) :
    v.read Val (v.writes Val f ((⟨Rect.unit off S.size inb, w⟩ : View.Piece Val S e) :: L)) = w :=
  (View.read_writes_eq_canon v f _ (fun y => ⟨_, List.mem_cons_self, by
    obtain rfl : off = fun _ => 0 := funext h
    show y ∈ (Rect.whole S).set; rw [Rect.set_whole]; exact Finset.mem_univ y⟩)).trans (View.canon_cons_unit_lit inb w L h)

/-- The slice of the tiles that the point reads back. -/
theorem ld_slice (i : grid0.Coords) (inb) (A : Vec F S72x512x256 .f32) :
    View.ld A (Rect.unit (s := S72x512x256) (k0_off1 i) S1x512x256.size inb) = slice i A := by
  funext y
  refine View.ld_unit_apply_of _ _ _ _ _ _ fun a => ?_
  rw [off1]
  fin_cases a
  · have : (y 0).val = 0 := by have := (y 0).isLt; change _ < 1 at this; omega
    show (i 1).val = (i 1).val + (y 0).val
    omega
  · show (y 1).val = 0 + (y 1).val; omega
  · show (y 2).val = 0 + (y 2).val; omega

/-- The tiles after one more was stored. -/
theorem read_put {sig : RefSig} {κ : Kind} {sp : Space} (v : View sig κ sp S72x512x256 .f32) (f : v.ty.Contents (Elt F)) (i : grid0.Coords) (inb) (p : Vec F S1x512x256 .f32) :
    v.read (Elt F) (v.writes (Elt F) f [⟨Rect.unit (s := S72x512x256) (k0_off2 i) S1x512x256.size inb, p⟩])
      = fun y => if (y 0).val = (i 1).val then p (ix3 0 (y 1) (y 2)) else v.read (Elt F) f y := by
  funext y
  by_cases hy : (y 0).val = (i 1).val
  · rw [if_pos hy]
    refine View.read_writes_cons_hit_of_coords v f (Rect.unit (s := S72x512x256) (k0_off2 i) S1x512x256.size inb) p [] (ix3 0 (y 1) (y 2)) _ fun a => ?_
    show (y a).val = k0_off2 i a + 1 * _
    rw [off2]
    fin_cases a
    · show (y 0).val = (i 1).val + 1 * 0; omega
    · show (y 1).val = 0 + 1 * (y 1).val; omega
    · show (y 2).val = 0 + 1 * (y 2).val; omega
  · rw [if_neg hy]
    refine View.read_writes_cons_miss_of_axis _ _ _ _ _ 0 (i 1).val 1 (off2 i 0) rfl rfl ?_
    omega

set_option maxHeartbeats 4000000 in
/-- One point of the kernel, on whole buffers at any contents. -/
theorem sound_kernel (c : Dev nD) (E : Set ℕ) (i : grid0.Coords) (arg2 : Memref sig .tc .vmem S512x7168 .fp8e4m3) (harg2 : arg2.IsWhole) (arg3 : Memref sig .tc .vmem S512x128 .f32) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .fp8e4m3) (harg8 : arg8.IsWhole) (arg9 : Memref sig .tc .vmem S512x128 .f32) (harg9 : arg9.IsWhole) (arg10 : Memref sig .tc .vmem S72x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x7168 .fp8e4m3) (x1 : Vec F S512x128 .f32) (x2 x3 : Vec F S7168x256 .fp8e4m3) (x4 x5 : Vec F S1x256 .f32) (y6 : Vec F S512x256 .fp8e4m3) (y7 : Vec F S512x128 .f32)
    (A : Vec F S72x512x256 .f32) (M I : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare A ∗ owns (c : Thread nD τ) arg11 fullShare M ∗ owns (c : Thread nD τ) arg12 fullShare I
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (nextCodes i A M I y6) ∗ owns (c : Thread nD τ) arg9 fullShare (nextScale i M y7) ∗ owns (c : Thread nD τ) arg10 fullShare (nextAct i x0 x1 x2 x3 x4 x5 A) ∗ owns (c : Thread nD τ) arg11 fullShare (nextMax i x0 x1 x2 x3 x4 x5 M) ∗ owns (c : Thread nD τ) arg12 fullShare (nextInv i M I)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11 arg12 harg12) K := by
  simp only [cc0_gateup_eq_skeleton]; unfold cc0_gateup_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  rcases kinds i with ⟨h1, h2, h3, h4⟩ | ⟨h1, h2, h3, h4⟩ | ⟨h1, h2, h3, h4⟩ | ⟨h1, h2, h3, h4⟩ | ⟨h1, h2, h3, h4⟩ | ⟨h1, h2, h3, h4⟩
  · sl_exec
    sl_step
    iapply Hk
    simp only [nextInv, nextScale, nextCodes, nextAct, nextMax, if_pos h1, if_pos h2, if_pos h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (View.readCov_fill _ _ _ _ _ (by decide)))
    isplitl [H7]
    · iexists _; isplitr; swap; · iexact H7
      ipureintro
      exact read_store _ _ _ _ _ (by decide)
    isplitl [H8]
    · iexists _; isplitr; swap; · iexact H8
      ipureintro
      exact read_put _ _ i _ _
    isplitl [H9]
    · iexists _; isplitr; swap; · iexact H9
      ipureintro
      exact (read_store _ _ _ _ _ (by decide)).trans (congrArg (k0_pay5 _ _ _ _ _ _) (View.readCov_fill _ _ _ _ _ (by decide)))
    iexists _; isplitr; swap; · iexact H10
    ipureintro
    exact read_store _ _ _ _ _ (by decide)
  · sl_exec
    sl_step
    iapply Hk
    simp only [nextInv, nextScale, nextCodes, nextAct, nextMax, if_pos h1, if_pos h2, if_pos h3, if_neg h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (View.readCov_fill _ _ _ _ _ (by decide)))
    isplitl [H7]
    · iexists _; isplitr; swap; · iexact H7
      ipureintro
      exact read_store _ _ _ _ _ (by decide)
    isplitl [H8]
    · iexists _; isplitr; swap; · iexact H8
      ipureintro
      exact rfl
    isplitl [H9]
    · iexists _; isplitr; swap; · iexact H9
      ipureintro
      exact read_store _ _ _ _ _ (by decide)
    iexists _; isplitr; swap; · iexact H10
    ipureintro
    exact read_store _ _ _ _ _ (by decide)
  · sl_exec
    sl_step
    iapply Hk
    simp only [nextInv, nextScale, nextCodes, nextAct, nextMax, if_neg h1, if_pos h2, if_neg h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (rfl))
    isplitl [H7]
    · iexists _; isplitr; swap; · iexact H7
      ipureintro
      exact rfl
    isplitl [H8]
    · iexists _; isplitr; swap; · iexact H8
      ipureintro
      exact read_put _ _ i _ _
    isplitl [H9]
    · iexists _; isplitr; swap; · iexact H9
      ipureintro
      exact read_store _ _ _ _ _ (by decide)
    iexists _; isplitr; swap; · iexact H10
    ipureintro
    exact rfl
  · sl_exec
    sl_step
    iapply Hk
    simp only [nextInv, nextScale, nextCodes, nextAct, nextMax, if_neg h1, if_pos h2, if_neg h3, if_neg h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact (read_store _ _ _ _ _ (by decide)).trans (congrArg₂ k0_pay1 (ld_slice i _ _) (rfl))
    isplitl [H7]
    · iexists _; isplitr; swap; · iexact H7
      ipureintro
      exact rfl
    isplitl [H8]
    · iexists _; isplitr; swap; · iexact H8
      ipureintro
      exact rfl
    isplitl [H9]
    · iexists _; isplitr; swap; · iexact H9
      ipureintro
      exact rfl
    iexists _; isplitr; swap; · iexact H10
    ipureintro
    exact rfl
  · sl_exec
    sl_step
    iapply Hk
    simp only [nextInv, nextScale, nextCodes, nextAct, nextMax, if_neg h1, if_neg h2, if_pos h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact rfl
    isplitl [H7]
    · iexists _; isplitr; swap; · iexact H7
      ipureintro
      exact rfl
    isplitl [H8]
    · iexists _; isplitr; swap; · iexact H8
      ipureintro
      exact read_put _ _ i _ _
    isplitl [H9]
    · iexists _; isplitr; swap; · iexact H9
      ipureintro
      exact (read_store _ _ _ _ _ (by decide)).trans (congrArg (k0_pay5 _ _ _ _ _ _) (View.readCov_fill _ _ _ _ _ (by decide)))
    iexists _; isplitr; swap; · iexact H10
    ipureintro
    exact rfl
  · sl_exec
    sl_step
    iapply Hk
    simp only [nextInv, nextScale, nextCodes, nextAct, nextMax, if_neg h1, if_neg h2, if_neg h3, if_pos h4]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact rfl
    isplitl [H7]
    · iexists _; isplitr; swap; · iexact H7
      ipureintro
      exact rfl
    isplitl [H8]
    · iexists _; isplitr; swap; · iexact H8
      ipureintro
      exact read_put _ _ i _ _
    isplitl [H9]
    · iexists _; isplitr; swap; · iexact H9
      ipureintro
      exact read_store _ _ _ _ _ (by decide)
    iexists _; isplitr; swap; · iexact H10
    ipureintro
    exact rfl

end Cert.GateupIdeal.Result

end
-- ==== Proof.GateupRun.lean ====
module

public import proofs.«01_k».proof.Proof.GateupStep
public import proofs.«01_k».proof.Proof.Gen.GateupIdeal.Frame
public import proofs.«01_k».proof.Proof.Gen.GateupIdeal.Points
public import proofs.«01_k».proof.Proof.Gen.GateupIdeal.Launch

/-! The run of the gate/up kernel over its grid. The tiles of one block of rows are kept until the next block's
points, which quantise and store them; here is what the kept buffers hold before every point, and the run. -/

@[expose] public section
set_option maxRecDepth 16384

noncomputable section

namespace Cert.GateupIdeal.Result

open Cert.GateupIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, read off the grid -/

theorem cond1_iff : ∀ t : Fin cfg0.N, k0_cond1 (grid0.coords t) = 1#1 ↔ (72 ≤ t.val ∧ t.val % 72 = 0) := by decide +kernel
theorem cond2_iff : ∀ t : Fin cfg0.N, k0_cond2 (grid0.coords t) = 1#1 ↔ 72 ≤ t.val := by decide +kernel
theorem cond3_iff : ∀ t : Fin cfg0.N, cond3 (grid0.coords t) = 1#1 ↔ t.val % 72 = 0 := by decide +kernel
theorem cond4_iff : ∀ t : Fin cfg0.N, k0_cond4 (grid0.coords t) = 1#1 ↔ t.val < 576 := by decide +kernel
theorem coord1 : ∀ t : Fin cfg0.N, (grid0.coords t 1).val = t.val % 72 := by decide +kernel
theorem idle6 : ∀ t : Fin cfg0.N, cfg0.idle 6 (cfg0.grid.coords t) = decide (t.val < 72) := by decide +kernel
theorem idle7 : ∀ t : Fin cfg0.N, cfg0.idle 7 (cfg0.grid.coords t) = decide (t.val < 72 ∨ t.val % 72 ≠ 0) := by decide +kernel
theorem flush6 : ∀ t : Fin cfg0.N, (cfg0.win 6).flush t = decide (72 ≤ t.val) := by decide +kernel
theorem flush7 : ∀ t : Fin cfg0.N, (cfg0.win 7).flush t = decide (72 ≤ t.val ∧ t.val % 72 = 71) := by decide +kernel

/-- The point numbered `n`. -/
def pt (n : ℕ) : Fin cfg0.N := ⟨n % 648, by have := Nat.mod_lt n (show 648 > 0 by decide); exact lt_of_lt_of_eq this N_0.symm⟩

theorem pt_val (t : Fin cfg0.N) : pt t.val = t :=
  Fin.ext (Nat.mod_eq_of_lt (lt_of_lt_of_eq t.isLt N_0))

/-! ## What the kept buffers hold -/

/-- The tile computed at point `n`. -/
def tile (c : Dev nD) (n : ℕ) : Vec F S1x512x256 .f32 :=
  tileAct (iblk m c 0 (pt n)) (iblk m c 1 (pt n)) (iblk m c 2 (pt n)) (iblk m c 3 (pt n)) (iblk m c 4 (pt n)) (iblk m c 5 (pt n))

/-- The running maximum of block row `i` after its first `j` tiles. -/
def maxAt (c : Dev nD) (i : ℕ) : ℕ → Vec F S512x128 .f32
  | 0 => k0_pay2
  | j + 1 => tileMax (iblk m c 0 (pt (72 * i + j))) (iblk m c 1 (pt (72 * i + j))) (iblk m c 2 (pt (72 * i + j))) (iblk m c 3 (pt (72 * i + j)))
      (iblk m c 4 (pt (72 * i + j))) (iblk m c 5 (pt (72 * i + j))) (maxAt c i j)

/-- The reciprocal scales of the block row before point `n`'s. -/
def invAt (c : Dev nD) (n : ℕ) : Vec F S512x128 .f32 := k0_pay8 (View.ld (maxAt m c (n / 72 - 1) 72) rLane)

/-- The scales of the block row before point `n`'s. -/
def scaleAt (c : Dev nD) (n : ℕ) : Vec F S512x128 .f32 := k0_pay7 (View.ld (maxAt m c (n / 72 - 1) 72) rLane)

/-- The codes stored at point `n`: those of the tile of 72 points before. -/
def codesAt (c : Dev nD) (n : ℕ) : Vec F S512x256 .fp8e4m3 := k0_pay1 (tile m c (n - 72)) (View.ld (invAt m c n) rCol)

/-- What the kept buffers hold before point `n`. -/
structure Kept (c : Dev nD) (n : ℕ) (A : Vec F S72x512x256 .f32) (M I : Vec F S512x128 .f32) : Prop where
  act : ∀ p : ℕ, p < n → p < 576 → (n ≤ p + 72 ∨ 504 ≤ p) → ∀ (y : Fin 512) (z : Fin 256),
    A (ix3 (⟨p % 72, Nat.mod_lt _ (by decide)⟩ : Fin 72) y z) = tile m c p (ix3 0 y z)
  max : 0 < n → n ≤ 576 → M = maxAt m c ((n - 1) / 72) ((n - 1) % 72 + 1)
  inv : 72 < n → I = invAt m c (n - 1)

section Step

variable {m} {c : Dev nD} {t : Fin cfg0.N} {A : Vec F S72x512x256 .f32} {M I : Vec F S512x128 .f32}

theorem Kept.max_row (h : Kept m c t.val A M I) (h72 : 72 ≤ t.val) (h0 : t.val % 72 = 0) : M = maxAt m c (t.val / 72 - 1) 72 := by
  have hN : t.val < 648 := lt_of_lt_of_eq t.isLt N_0
  have := h.max (by omega) (by omega)
  rw [this]
  congr 1 <;> omega

theorem Kept.nextInv (h : Kept m c t.val A M I) (h72 : 72 ≤ t.val) : nextInv (grid0.coords t) M I = invAt m c t.val := by
  unfold Result.nextInv
  by_cases h0 : t.val % 72 = 0
  · rw [if_pos ((cond1_iff t).2 ⟨h72, h0⟩), h.max_row h72 h0]; rfl
  · rw [if_neg (fun hc => h0 ((cond1_iff t).1 hc).2), h.inv (by omega)]
    unfold invAt
    rw [show (t.val - 1) / 72 = t.val / 72 by omega]

theorem Kept.slice (h : Kept m c t.val A M I) (h72 : 72 ≤ t.val) : slice (grid0.coords t) A = tile m c (t.val - 72) := by
  have hN : t.val < 648 := lt_of_lt_of_eq t.isLt N_0
  funext y
  have e := h.act (t.val - 72) (by omega) (by omega) (Or.inl (by omega)) (y 1) (y 2)
  have hi : (grid0.coords t 1 : Fin 72) = ⟨(t.val - 72) % 72, Nat.mod_lt _ (by decide)⟩ := Fin.ext ((coord1 t).trans (by show _ = (t.val - 72) % 72; omega))
  unfold Result.slice
  rw [hi]
  refine e.trans (congrArg (tile m c (t.val - 72)) ?_)
  funext a
  fin_cases a
  · exact (Subsingleton.elim (α := Fin 1) _ _)
  · rfl
  · rfl

theorem Kept.codes (h : Kept m c t.val A M I) (h72 : 72 ≤ t.val) (y6) : nextCodes (grid0.coords t) A M I y6 = codesAt m c t.val := by
  unfold nextCodes
  rw [if_pos ((cond2_iff t).2 h72), h.slice h72, h.nextInv h72]
  rfl

theorem Kept.scale (h : Kept m c t.val A M I) (h72 : 72 ≤ t.val) (h0 : t.val % 72 = 0) (y7) : nextScale (grid0.coords t) M y7 = scaleAt m c t.val := by
  unfold nextScale
  rw [if_pos ((cond1_iff t).2 ⟨h72, h0⟩), h.max_row h72 h0]
  rfl

/-- The kept buffers after a point. -/
theorem Kept.step (h : Kept m c t.val A M I) : Kept m c (t.val + 1)
    (nextAct (grid0.coords t) (iblk m c 0 t) (iblk m c 1 t) (iblk m c 2 t) (iblk m c 3 t) (iblk m c 4 t) (iblk m c 5 t) A)
    (nextMax (grid0.coords t) (iblk m c 0 t) (iblk m c 1 t) (iblk m c 2 t) (iblk m c 3 t) (iblk m c 4 t) (iblk m c 5 t) M)
    (Result.nextInv (grid0.coords t) M I) := by
  have hN : t.val < 648 := lt_of_lt_of_eq t.isLt N_0
  refine ⟨fun p hp hp' hw y z => ?_, fun _ hn => ?_, fun hn => ?_⟩
  · unfold nextAct
    by_cases ht : t.val < 576
    · rw [if_pos ((cond4_iff t).2 ht)]
      by_cases hpt : p = t.val
      · subst hpt
        refine (if_pos (coord1 t).symm).trans ?_
        unfold tile
        rw [pt_val]
        rfl
      · refine (if_neg (fun hc => ?_)).trans (h.act p (by omega) hp' (by omega) y z)
        have : p % 72 = t.val % 72 := hc.trans (coord1 t)
        omega
    · rw [if_neg (fun hc => ht ((cond4_iff t).1 hc))]
      exact h.act p (by omega) hp' (by omega) y z
  · unfold nextMax
    rw [if_pos ((cond4_iff t).2 (by omega))]
    rw [show (t.val + 1 - 1) / 72 = t.val / 72 by omega, show (t.val + 1 - 1) % 72 + 1 = t.val % 72 + 1 by omega]
    have e : (if cond3 (grid0.coords t) = 1#1 then k0_pay2 else M) = maxAt m c (t.val / 72) (t.val % 72) := by
      by_cases h0 : t.val % 72 = 0
      · rw [if_pos ((cond3_iff t).2 h0), h0]; rfl
      · rw [if_neg (fun hc => h0 ((cond3_iff t).1 hc)), h.max (by omega) (by omega)]
        congr 1 <;> omega
    rw [e, maxAt, show 72 * (t.val / 72) + t.val % 72 = t.val by omega, pt_val]
  · exact (h.nextInv (by omega)).trans (by rw [Nat.add_sub_cancel])

end Step

/-! ## The proof data -/

/-- The kept buffers, at what they hold before point `n`. -/
def keptAt (c : Dev nD) (n : ℕ) : sProp 𝕄 :=
  iprop((∃ A : Vec F S72x512x256 .f32, ∃ M : Vec F S512x128 .f32, ∃ I : Vec F S512x128 .f32, ⌜Kept m c n A M I⌝
    ∗ owns (c : Thread nD τ) (Memref.whole cc0_scratch0) fullShare A
    ∗ owns (c : Thread nD τ) (Memref.whole cc0_scratch1) fullShare M
    ∗ owns (c : Thread nD τ) (Memref.whole cc0_scratch2) fullShare I) ∗ ∃ r, prngReg c r)

/-- The proof data: inputs stay at their blocks, the codes and the scales are those of the block row before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t.val
    | ⟨7, _⟩ => scaleAt m c t.val
  Φ t := keptAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t.val := by dsimp only [dats]
theorem after0_7 (c : Dev nD) (t : Fin cfg0.N) : (dats m 0 c).after 7 t = scaleAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Between the point that stores a block row's scales and the point that writes them back, they stay. -/
theorem before0_7 (c : Dev nD) (d) : ∀ (n : ℕ) (hn : n < cfg0.N), 72 ≤ n → n % 72 ≠ 0 → (dats m 0 c).before 7 ⟨n, hn⟩ d = scaleAt m c n := by
  intro n
  induction n with
  | zero => intro _ h; omega
  | succ n ih =>
    intro hn h72 h0
    rw [(dats m 0 c).before_of_pos 7 ⟨n + 1, hn⟩ (Nat.succ_ne_zero n) rfl d]
    have hf : (cfg0.win 7).flush ⟨n + 1 - 1, Nat.lt_of_le_of_lt (Nat.sub_le _ _) hn⟩ = false :=
      (flush7 _).trans (decide_eq_false (by show ¬ (72 ≤ n ∧ n % 72 = 71); omega))
    rw [hf, if_neg Bool.false_ne_true]
    have hn' : n < cfg0.N := by omega
    have hs : scaleAt m c (n + 1) = scaleAt m c n := by unfold scaleAt; rw [show (n + 1) / 72 = n / 72 by omega]
    rw [hs]
    change (dats m 0 c).left 7 ⟨n, hn'⟩ d = _
    have hi := idle7 ⟨n, hn'⟩
    unfold Dat.left
    by_cases hz : n % 72 = 0
    · rw [show cfg0.idle 7 (cfg0.grid.coords ⟨n, hn'⟩) = false from hi.trans (decide_eq_false (by show ¬ (n < 72 ∨ n % 72 ≠ 0); omega))]
      unfold Dat.kept
      rw [after0_7]
      exact (cfg0.win 7).fill_cut _ (scaleAt m c n)
    · rw [show cfg0.idle 7 (cfg0.grid.coords ⟨n, hn'⟩) = true from hi.trans (decide_eq_true (by show n < 72 ∨ n % 72 ≠ 0; omega))]
      exact ih hn' (by omega) hz

/-! ## The body obligation -/

theorem codes_left (c : Dev nD) (t : Fin cfg0.N) (A M I d) (h : Kept m c t.val A M I) :
    (owns (c : Thread nD τ) (st0_6 t) fullShare (nextCodes (grid0.coords t) A M I ((dats m 0 c).before 6 t d)) : sProp 𝕄) ⊢ (dats m 0 c).leavesExact 6 t := by
  by_cases ht : t.val < 72
  · rw [(dats m 0 c).leavesExact_idle 6 t ((idle6 t).trans (decide_eq_true ht)) ((flush6 t).trans (decide_eq_false (by omega)))]
    unfold nextCodes
    rw [if_neg (fun hc => by have := (cond2_iff t).1 hc; omega)]
    iintro H; iexists d; iexact H
  · rw [h.codes (by omega)]
    unfold Dat.leavesExact
    rw [show cfg0.idle 6 (cfg0.grid.coords t) = false from (idle6 t).trans (decide_eq_false ht), after0_6]

theorem scale_left (c : Dev nD) (t : Fin cfg0.N) (A M I d) (h : Kept m c t.val A M I) :
    (owns (c : Thread nD τ) (st0_7 t) fullShare (nextScale (grid0.coords t) M ((dats m 0 c).before 7 t d)) : sProp 𝕄) ⊢ (dats m 0 c).leavesExact 7 t := by
  by_cases h0 : 72 ≤ t.val ∧ t.val % 72 = 0
  · rw [h.scale h0.1 h0.2]
    unfold Dat.leavesExact
    rw [show cfg0.idle 7 (cfg0.grid.coords t) = false from (idle7 t).trans (decide_eq_false (by omega)), after0_7]
  · have hs : nextScale (grid0.coords t) M ((dats m 0 c).before 7 t d) = (dats m 0 c).before 7 t d := by
      unfold nextScale
      rw [if_neg (fun hc => h0 ((cond1_iff t).1 hc))]
    rw [hs]
    have hi : cfg0.idle 7 (cfg0.grid.coords t) = true := (idle7 t).trans (decide_eq_true (by omega))
    by_cases hf : 72 ≤ t.val ∧ t.val % 72 = 71
    · rw [before0_7 m c d t.val t.isLt hf.1 (by omega)]
      unfold Dat.leavesExact
      rw [hi, show (cfg0.win 7).flush t = true from (flush7 t).trans (decide_eq_true hf), after0_7]
    · rw [(dats m 0 c).leavesExact_idle 7 t hi ((flush7 t).trans (decide_eq_false hf))]
      iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = keptAt m c (t.val + 1) from rfl, show (dats m 0 c).Φ t.castSucc = keptAt m c t.val from rfl,
    show (dats m 0 c).owesAt () t.succ = (dats m 0 c).owesAt () t.castSucc from rfl,
    after0_0, after0_1, after0_2, after0_3, after0_4, after0_5]
  unfold keptAt
  iintro ⟨⟨⟨%A, %M, %I, %hK, HA, HM, HI⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) A M I _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HM]; · iexact HM
  isplitl [HI]; · iexact HI
  iintro ⟨H0, H1, H2, H3, H4, H5, H6, H7, HA, HM, HI⟩
  isplitl [HA HM HI Hr]
  · isplitl [HA HM HI]
    · iexists _; iexists _; iexists _
      isplitr
      · ipureintro; exact hK.step
      isplitl [HA]; · iexact HA
      isplitl [HM]; · iexact HM
      iexact HI
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (codes_left m c t A M I d6 hK); iexact H6
  · iapply (scale_left m c t A M I d7 hK); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem kept_in (c : Dev nD) : Pipeline.ΦA spec0 c ⊢ (dats m 0 c).Φ 0 := by
  unfold Pipeline.ΦA
  rw [scopedRest0_eq, show (dats m 0 c).Φ 0 = keptAt m c 0 from rfl]
  unfold keptAt
  iintro ⟨⟨⟨%A, HA⟩, ⟨%M, HM⟩, ⟨%I, HI⟩⟩, Hr⟩
  isplitl [HA HM HI]
  · iexists A; iexists M; iexists I
    isplitr
    · ipureintro; exact ⟨fun p hp => absurd hp (Nat.not_lt_zero _), fun h => absurd h (Nat.lt_irrefl _), fun h => absurd h (by decide)⟩
    rw [owns_whole, owns_whole, owns_whole]
    isplitl [HA]; · iexact HA
    isplitl [HM]; · iexact HM
    iexact HI
  · iexact Hr

theorem kept_out (c : Dev nD) : (dats m 0 c).Φ (Fin.last cfg0.N) ⊢ Pipeline.ΦA spec0 c := by
  unfold Pipeline.ΦA
  rw [scopedRest0_eq, show (dats m 0 c).Φ (Fin.last cfg0.N) = keptAt m c cfg0.N from rfl]
  unfold keptAt
  simp only [owns_whole]
  iintro ⟨⟨%A, %M, %I, -, HA, HM, HI⟩, Hr⟩
  isplitl [HA HM HI]
  · isplitl [HA]; · iexists A; iexact HA
    isplitl [HM]; · iexists M; iexact HM
    iexists I; iexact HI
  · iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := kept_in m) (hout := kept_out m)

/-- Every execution ends, with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim: every execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GateupIdeal.Result

end
-- ==== Proof.Quantiser.lean ====
/- The quantiser's scale over the extended reals. A row whose greatest magnitude is `a` is scaled by a power of two
   chosen from `y = a / 448`: the least `2 ^ e`, `-126 ≤ e ≤ 126`, that is above `y`, and `1` for a row of zeros. Here
   the exponent is stated once, and both ways of computing it are shown to give it: counting the powers not above `y`
   and writing the exponent field of a float, and taking the least exponent of a table. -/
module

public import Idealize.ShloMosaic.Lib.Pipeline.ValueKit
public import Idealize.ShloMosaic.Lib.IndicatorCount

@[expose] public section

set_option maxRecDepth 16384

noncomputable section

namespace Cert.Quantiser

open Idealize.ShloMosaic

/-- The power of two `2 ^ e`. -/
def pow2 (e : ℤ) : EReal := (((2 : ℝ) ^ e : ℝ) : EReal)

/-- How many of the powers `2 ^ -126`, …, `2 ^ 125` are not above `y`. -/
def count (y : EReal) : ℕ := (Finset.univ.filter fun k : Fin 252 => pow2 ((k.val : ℤ) - 126) ≤ y).card

/-- The exponent of the scale. -/
def expo (y : EReal) : ℤ := if y = 0 then 0 else (count y : ℤ) - 126

/-- The float constant nearest to `1 / 448`. -/
abbrev recip : EReal := Ideal.ofBits .f32 991054117#32

/-- The scale of a row of greatest magnitude `a`. -/
def scale (a : EReal) : EReal := pow2 (expo (a * recip))

/-- The reciprocal of the scale. -/
def inv (a : EReal) : EReal := pow2 (-expo (a * recip))

/-- The code of `v` in a row of greatest magnitude `a`: scaled, and clipped to ±448. -/
def code (v a : EReal) : EReal :=
  min (Ideal.ofBits .f32 1138753536#32) (max (Ideal.ofBits .f32 3286237184#32) (v * inv a))

theorem pow2_mono {a b : ℤ} (h : a ≤ b) : pow2 a ≤ pow2 b :=
  EReal.coe_le_coe_iff.2 (zpow_le_zpow_right₀ (by norm_num) h)

theorem count_le (y : EReal) : count y ≤ 252 := (Finset.card_le_univ _).trans (by simp)

theorem expo_range (y : EReal) : -126 ≤ expo y ∧ expo y ≤ 126 := by
  have := count_le y
  unfold expo; split <;> omega

/-- The powers not above `y` are the first `count y`. -/
theorem le_iff (y : EReal) (k : Fin 252) : pow2 ((k.val : ℤ) - 126) ≤ y ↔ k.val < count y := by
  constructor
  · intro h
    have hs : Finset.Iic k ⊆ Finset.univ.filter fun k : Fin 252 => pow2 ((k.val : ℤ) - 126) ≤ y := fun j hj =>
      Finset.mem_filter.2 ⟨Finset.mem_univ _, (pow2_mono (by have := Fin.le_def.1 (Finset.mem_Iic.1 hj); omega)).trans h⟩
    have := Finset.card_le_card hs
    rw [Fin.card_Iic] at this
    exact this
  · intro h
    by_contra hn
    have hs : (Finset.univ.filter fun k : Fin 252 => pow2 ((k.val : ℤ) - 126) ≤ y) ⊆ Finset.Iio k := fun j hj => by
      refine Finset.mem_Iio.2 (not_le.1 fun hkj => hn ((pow2_mono ?_).trans (Finset.mem_filter.1 hj).2))
      have := Fin.le_def.1 hkj; omega
    have := Finset.card_le_card hs
    rw [Fin.card_Iio] at this
    unfold count at h
    omega

/-! ## Counting, and writing the exponent field -/

/-- A float whose exponent field is `n + 1` and whose other fields are zero. -/
theorem ofBits_field (w : BitVec 32) (n : ℕ) (hn : n ≤ 252) (hw : w.toNat = (n + 1) * 2 ^ 23) :
    Ideal.ofBits .f32 w = pow2 ((n : ℤ) - 126) := by
  have hs : (w.extractLsb' (8 + 23) 1 == 1#1) = false := by
    rw [beq_eq_false_iff_ne]
    intro h
    have := congrArg BitVec.toNat h
    rw [BitVec.extractLsb'_toNat, hw, Nat.shiftRight_eq_div_pow, Nat.div_eq_of_lt (by omega)] at this
    exact absurd this (by decide)
  have he : (w.extractLsb' 23 8).toNat = n + 1 := by
    rw [BitVec.extractLsb'_toNat, hw, Nat.shiftRight_eq_div_pow, Nat.mul_div_cancel _ (by decide), Nat.mod_eq_of_lt (by omega)]
  have hf : (w.extractLsb' 0 23).toNat = 0 := by
    rw [BitVec.extractLsb'_toNat, hw, Nat.shiftRight_zero, Nat.mul_mod_left]
  show Ideal.ieee 8 23 w = _
  unfold Ideal.ieee
  simp only [hs, he, hf]
  rw [if_neg (by omega), if_neg (by omega)]
  unfold pow2
  refine congrArg _ ?_
  rw [if_neg Bool.false_ne_true, one_mul, show ((2 ^ 23 + 0 : ℕ) : ℝ) = (2 : ℝ) ^ (23 : ℤ) by norm_num, ← zpow_add₀ (by norm_num)]
  congr 1
  push_cast
  ring

theorem power_word (k : Fin 252) :
    Ideal.ofBits .f32 (IntOp.shli ArithUnit.vector (IntOp.addi (BitVec.ofNat 32 k.val) 1#32) 23#32) = pow2 ((k.val : ℤ) - 126) := by
  refine ofBits_field _ k.val (by omega) ?_
  revert k; decide +kernel

/-- The exponent as the kernel counts it. -/
theorem word_eq (y : EReal) :
    (if y = 0 then 0#32 else IntOp.subi (Finset.fold IntOp.addi (0#32) (fun x : Fin 252 => BitVec.setWidth 32 (BitVec.ofBool
      (decide (Ideal.ofBits FTy.f32 (IntOp.shli ArithUnit.vector (IntOp.addi (BitVec.ofNat 32 ↑x) 1#32) 23#32) ≤ y)))) Finset.univ) 126#32)
      = BitVec.ofInt 32 (expo y) := by
  unfold expo
  by_cases h : y = 0
  · rw [if_pos h, if_pos h]; rfl
  · rw [if_neg h, if_neg h, IndicatorCount.fold_addi_setWidth_eq_card]
    have : (Finset.univ.filter fun x : Fin 252 => BitVec.ofBool
      (decide (Ideal.ofBits FTy.f32 (IntOp.shli ArithUnit.vector (IntOp.addi (BitVec.ofNat 32 ↑x) 1#32) 23#32) ≤ y)) = 1#1).card = count y := by
      unfold count
      congr 1
      refine Finset.filter_congr fun x _ => ?_
      rw [power_word]
      by_cases hx : pow2 ((x.val : ℤ) - 126) ≤ y <;> simp [hx]
    rw [this]
    have hc := count_le y
    generalize count y = n at hc
    obtain ⟨n, rfl⟩ : ∃ k : Fin 253, k.val = n := ⟨⟨n, by omega⟩, rfl⟩
    clear hc this h
    revert n; decide +kernel

theorem scale_word (e : ℤ) (h : -126 ≤ e ∧ e ≤ 126) :
    Ideal.ofBits .f32 (IntOp.shli ArithUnit.vector (IntOp.addi (BitVec.ofInt 32 e) 127#32) 23#32) = pow2 e := by
  obtain ⟨n, rfl⟩ : ∃ k : Fin 253, e = (k.val : ℤ) - 126 := ⟨⟨(e + 126).toNat, by omega⟩, by simp only []; omega⟩
  refine ofBits_field _ n.val (by omega) ?_
  clear h
  revert n; decide +kernel

theorem inv_word (e : ℤ) (h : -126 ≤ e ∧ e ≤ 126) :
    Ideal.ofBits .f32 (IntOp.shli ArithUnit.vector (IntOp.subi 127#32 (BitVec.ofInt 32 e)) 23#32) = pow2 (-e) := by
  obtain ⟨n, rfl⟩ : ∃ k : Fin 253, e = 126 - (k.val : ℤ) := ⟨⟨(126 - e).toNat, by omega⟩, by simp only []; omega⟩
  rw [show -(126 - (n.val : ℤ)) = (n.val : ℤ) - 126 by omega]
  refine ofBits_field _ n.val (by omega) ?_
  clear h
  revert n; decide +kernel

/-! ## The least exponent of the table -/

theorem ofBits_126 : Ideal.ofBits .f32 1123811328#32 = ((126 : ℝ) : EReal) := by
  simp [Ideal.ofBits, Ideal.ieee, -EReal.coe_mul]; norm_num

theorem recip_ne : recip ≠ 0 := by
  unfold recip
  simp [Ideal.ofBits, Ideal.ieee, -EReal.coe_mul]

theorem entry (k : Fin 253) : (FloatOps.sitofp (F := Ideal) FTy.f32 (BitVec.ofNat 32 k.val) : EReal) - Ideal.ofBits FTy.f32 1123811328#32
    = (((k.val : ℤ) - 126 : ℤ) : ℝ) := by
  have hk : (BitVec.ofNat 32 k.val).toInt = (k.val : ℤ) := by revert k; decide +kernel
  rw [ofBits_126]
  show ((((BitVec.ofNat 32 k.val).toInt : ℝ)) : EReal) - _ = _
  rw [hk, ← EReal.coe_sub]
  norm_cast

theorem exp2_int (e : ℤ) : (FloatOps.exp2 (F := Ideal) (φ := .f32) ((((e : ℤ) : ℝ) : EReal)) : EReal) = pow2 e := by
  show Ideal.exp2 _ = _
  rw [Ideal.exp2_coe]
  unfold pow2
  exact congrArg _ (Real.rpow_intCast 2 e)

theorem exp2_neg (e : ℤ) : (FloatOps.exp2 (F := Ideal) (φ := .f32) ((0 : EReal) - (((e : ℤ) : ℝ) : EReal)) : EReal) = pow2 (-e) := by
  rw [← exp2_int (-e)]
  congr 1
  rw [zero_sub, Int.cast_neg, EReal.coe_neg]

/-- The exponent as the reference finds it. -/
theorem table_eq (a : EReal) :
    (if a = 0 then 0 else Finset.fold min (Ideal.ofBits FTy.f32 2139095040#32) (fun x : Fin 253 => Scalar.select (BitVec.ofBool
      (decide (a * Ideal.ofBits FTy.f32 991054117#32 < FloatOps.exp2 (F := Ideal) (φ := .f32) ((FloatOps.sitofp (F := Ideal) FTy.f32 (BitVec.ofNat 32 ↑x) : EReal) - Ideal.ofBits FTy.f32 1123811328#32))))
        ((FloatOps.sitofp (F := Ideal) FTy.f32 (BitVec.ofNat 32 ↑x) : EReal) - Ideal.ofBits FTy.f32 1123811328#32) (Ideal.ofBits FTy.f32 1123811328#32)) Finset.univ)
      = (((expo (a * recip) : ℤ) : ℝ) : EReal) := by
  unfold expo
  by_cases h : a = 0
  · subst h; simp
  · have h' : a * recip ≠ 0 := mul_ne_zero h recip_ne
    rw [if_neg h, if_neg h']
    generalize hy : a * recip = y at *
    have hf : ∀ x : Fin 253, Scalar.select (BitVec.ofBool
      (decide (y < FloatOps.exp2 (F := Ideal) (φ := .f32) ((FloatOps.sitofp (F := Ideal) FTy.f32 (BitVec.ofNat 32 ↑x) : EReal) - Ideal.ofBits FTy.f32 1123811328#32))))
        ((FloatOps.sitofp (F := Ideal) FTy.f32 (BitVec.ofNat 32 ↑x) : EReal) - Ideal.ofBits FTy.f32 1123811328#32) (Ideal.ofBits FTy.f32 1123811328#32)
        = (((if count y ≤ x.val then (x.val : ℤ) - 126 else 126 : ℤ) : ℝ) : EReal) := by
      intro x
      rw [entry, exp2_int, ofBits_126]
      have hc := count_le y
      by_cases hx : x.val = 252
      · rw [if_pos (by omega), hx]
        norm_num [Scalar.select]
      · have hi := le_iff y ⟨x.val, by omega⟩
        simp only [] at hi
        by_cases hn : count y ≤ x.val
        · rw [if_pos hn, decide_eq_true (not_le.1 fun hc => absurd (hi.1 hc) (by omega))]
          rfl
        · rw [if_neg hn, decide_eq_false (not_lt.2 (hi.2 (by omega)))]
          norm_num [Scalar.select]
          exact fun h => absurd h (by decide)
    simp only [hf]
    have hc := count_le y
    refine le_antisymm ?_ ?_
    · refine (Finset.fold_min_le _).2 (Or.inr ⟨⟨count y, by omega⟩, Finset.mem_univ _, ?_⟩)
      rw [if_pos le_rfl]
    · refine Finset.le_fold_min _ |>.2 ⟨?_, fun x _ => EReal.coe_le_coe_iff.2 (Int.cast_le.2 ?_)⟩
      · rw [show Ideal.ofBits FTy.f32 2139095040#32 = ⊤ by simp [Ideal.ofBits, Ideal.ieee]]
        exact le_top
      · split <;> omega

end Cert.Quantiser

end
-- ==== Proof.GateupSpec.lean ====
/- What the gate and up projections compute, entry by entry over the extended reals: the gated product `silu(g) * u` of
   the two rescaled products of codes, and its quantisation row by row with a power-of-two scale. -/
module

public import proofs.«01_k».proof.Proof.Gen.GateupIdeal
public import proofs.«01_k».proof.Proof.Quantiser
public import Idealize.ShloMosaic.Lib.Pipeline.ValueKit

@[expose] public section

set_option maxRecDepth 16384

noncomputable section

namespace Cert.GateupSpec

open Idealize.ShloMosaic Idealize.ShloMosaic.TcCoe Idealize.SL.Sem Cert.GateupIdeal

/-- The gated product of two projections. -/
def gate (g u : EReal) : EReal := g * Ideal.logistic g * u

/-- Entry `(r, k)` of the product of the codes with one weight matrix, rescaled by row and by column. -/
def proj (c3 : FVec Ideal S4096x7168 .fp8e4m3) (a3 : FVec Ideal S4096x128 .f32) (w : FVec Ideal S7168x18432 .fp8e4m3)
    (s : FVec Ideal S18432 .f32) (r : Fin 4096) (k : Fin 18432) : EReal :=
  (∑ x : Fin 7168, c3 (ix2 r x) * w (ix2 x k)) * a3 (ix2 r 0) * s (ix1 k)

/-- Entry `(r, k)` of the gated product. -/
def gated (c3 : FVec Ideal S4096x7168 .fp8e4m3) (a3 : FVec Ideal S4096x128 .f32) (wg wu : FVec Ideal S7168x18432 .fp8e4m3)
    (sg su : FVec Ideal S18432 .f32) (r : Fin 4096) (k : Fin 18432) : EReal :=
  gate (proj c3 a3 wg sg r k) (proj c3 a3 wu su r k)

/-- The greatest magnitude of row `r` of the gated product. -/
def rowMax (c3 : FVec Ideal S4096x7168 .fp8e4m3) (a3 : FVec Ideal S4096x128 .f32) (wg wu : FVec Ideal S7168x18432 .fp8e4m3)
    (sg su : FVec Ideal S18432 .f32) (r : Fin 4096) : EReal :=
  Finset.univ.fold max (Ideal.ofBits .f32 4286578688#32) fun k : Fin 18432 =>
    (FloatOps.absf (F := Ideal) (φ := .f32) (gated c3 a3 wg wu sg su r k) : EReal)

/-- The codes. -/
def codes (c3 : FVec Ideal S4096x7168 .fp8e4m3) (a3 : FVec Ideal S4096x128 .f32) (wg wu : FVec Ideal S7168x18432 .fp8e4m3)
    (sg su : FVec Ideal S18432 .f32) : FVec Ideal S4096x18432 .fp8e4m3 := fun j =>
  Quantiser.code (gated c3 a3 wg wu sg su (j 0) (j 1)) (rowMax c3 a3 wg wu sg su (j 0))

/-- The scales, the same in every column. -/
def scales (c3 : FVec Ideal S4096x7168 .fp8e4m3) (a3 : FVec Ideal S4096x128 .f32) (wg wu : FVec Ideal S7168x18432 .fp8e4m3)
    (sg su : FVec Ideal S18432 .f32) : FVec Ideal S4096x128 .f32 := fun j =>
  Quantiser.scale (rowMax c3 a3 wg wu sg su (j 0))

theorem codes_congr {c3 c3' a3 a3' wg wg' wu wu' sg sg' su su'} (h0 : c3 = c3') (h1 : a3 = a3') (h2 : wg = wg') (h3 : wu = wu')
    (h4 : sg = sg') (h5 : su = su') : codes c3 a3 wg wu sg su = codes c3' a3' wg' wu' sg' su' := by
  subst h0 h1 h2 h3 h4 h5; rfl

theorem scales_congr {c3 c3' a3 a3' wg wg' wu wu' sg sg' su su'} (h0 : c3 = c3') (h1 : a3 = a3') (h2 : wg = wg') (h3 : wu = wu')
    (h4 : sg = sg') (h5 : su = su') : scales c3 a3 wg wu sg su = scales c3' a3' wg' wu' sg' su' := by
  subst h0 h1 h2 h3 h4 h5; rfl

/-- A magnitude is not negative. -/
theorem abs_nonneg (x : EReal) : (0 : EReal) ≤ FloatOps.absf (F := Ideal) (φ := .f32) x := by
  show (0 : EReal) ≤ max x (-x)
  rcases le_total 0 x with h | h
  · exact le_max_of_le_left h
  · exact le_max_of_le_right (by rw [← neg_zero]; exact EReal.neg_le_neg_iff.2 h)

/-- A maximum kept tile by tile and lane by lane, from zero, is the maximum over all columns of what is not negative. -/
theorem fold_lanes (f : Fin 18432 → EReal) (hf : ∀ k, 0 ≤ f k) (M : ℕ → Fin 128 → EReal) (h0 : ∀ x, M 0 x = 0)
    (hs : ∀ (j : ℕ) (hj : j < 72) (x : Fin 128), M (j + 1) x
      = max (M j x) (max (f ⟨256 * j + x.val, by omega⟩) (f ⟨256 * j + (128 + x.val), by omega⟩))) :
    Finset.univ.fold max (Ideal.ofBits .f32 4286578688#32) (fun x : Fin 128 => M 72 x)
      = Finset.univ.fold max (Ideal.ofBits .f32 4286578688#32) f := by
  have hM : ∀ j, j ≤ 72 → ∀ (x : Fin 128) (c : EReal), M j x ≤ c ↔ 0 ≤ c ∧ ∀ k : Fin 18432, k.val < 256 * j → k.val % 128 = x.val → f k ≤ c := by
    intro j
    induction j with
    | zero => intro _ x c; rw [h0]; exact ⟨fun h => ⟨h, fun k hk => absurd hk (by omega)⟩, fun h => h.1⟩
    | succ j ih =>
      intro hj x c
      rw [hs j (by omega), max_le_iff, max_le_iff, ih (by omega)]
      constructor
      · rintro ⟨⟨hc, hk⟩, ha, hb⟩
        refine ⟨hc, fun k hk1 hk2 => ?_⟩
        by_cases h1 : k.val < 256 * j
        · exact hk k h1 hk2
        · by_cases h2 : k.val = 256 * j + x.val
          · rw [show k = ⟨256 * j + x.val, by omega⟩ from Fin.ext h2]; exact ha
          · have := x.isLt
            rw [show k = ⟨256 * j + (128 + x.val), by omega⟩ from Fin.ext (by show k.val = 256 * j + (128 + x.val); omega)]; exact hb
      · rintro ⟨hc, hk⟩
        have := x.isLt
        exact ⟨⟨hc, fun k h1 h2 => hk k (by omega) h2⟩, hk _ (by show 256 * j + x.val < _; omega) (by show (256 * j + x.val) % 128 = _; omega),
          hk _ (by show 256 * j + (128 + x.val) < _; omega) (by show (256 * j + (128 + x.val)) % 128 = _; omega)⟩
  refine eq_of_forall_ge_iff fun c => ?_
  rw [Finset.fold_max_le, Finset.fold_max_le]
  refine and_congr_right fun _ => ⟨fun h k _ => ?_, fun h x _ => ?_⟩
  · exact ((hM 72 le_rfl ⟨k.val % 128, Nat.mod_lt _ (by decide)⟩ c).1 (h _ (Finset.mem_univ _))).2 k k.isLt rfl
  · exact (hM 72 le_rfl x c).2 ⟨(hf 0).trans (h 0 (Finset.mem_univ _)), fun k _ _ => h k (Finset.mem_univ _)⟩

end Cert.GateupSpec

end
-- ==== Proof.GateupKernel.lean ====
/- The gate/up kernel's arrays, entry by entry over the extended reals. -/
module

public import proofs.«01_k».proof.Proof.GateupRun
public import proofs.«01_k».proof.Proof.GateupSpec
public import Idealize.ShloMosaic.Lib.Pipeline.ValueKit
public import Idealize.ShloMosaic.Lib.Pipeline.ReadBack

@[expose] public section
set_option maxRecDepth 16384

noncomputable section

namespace Cert.GateupIdeal.Result

open Idealize.ShloMosaic Idealize.ShloMosaic.TcCoe Idealize.SL.Sem
open Idealize.ShloMosaic.Pipeline (Dat)
open Cert.GateupIdeal Cert.GateupIdeal.Gen

/-! ## What one point computes -/

theorem gated_apply (v0 v1 v2 v3 v10 v11 j) : k0_pay3 (F := Ideal) v0 v1 v2 v3 v10 v11 j
    = GateupSpec.gate ((∑ k : Fin 7168, v0 (ix2 (j 0) k) * v2 (ix2 k (j 1))) * v1 (ix2 (j 0) 0) * v3 (ix2 0 (j 1)))
      ((∑ k : Fin 7168, v0 (ix2 (j 0) k) * v10 (ix2 k (j 1))) * v1 (ix2 (j 0) 0) * v11 (ix2 0 (j 1))) := by
  pointwise [k0_pay3, GateupSpec.gate]

theorem tile_pay (v0 v1 v2 v3 v10 v11 j) : k0_pay4 (F := Ideal) v0 v1 v2 v3 v10 v11 j = k0_pay3 v0 v1 v2 v3 v10 v11 (ix2 (j 1) (j 2)) := by
  pointwise [k0_pay4]

theorem max_pay (v0 v1 v2 v3 v10 v11 v) (y : Fin 512) (x : Fin 128) : k0_pay5 (F := Ideal) v0 v1 v2 v3 v10 v11 v (ix2 y x)
    = max (v (ix2 y x) : EReal) (max (FloatOps.absf (F := Ideal) (φ := .f32) (k0_pay3 v0 v1 v2 v3 v10 v11 (ix2 y ⟨x.val, by omega⟩)))
        (FloatOps.absf (F := Ideal) (φ := .f32) (k0_pay3 v0 v1 v2 v3 v10 v11 (ix2 y ⟨128 + x.val, by omega⟩)))) := by
  pointwise [k0_pay5]

theorem zero_pay (j) : k0_pay2 (F := Ideal) j = (0 : EReal) := by
  pointwise [k0_pay2]

theorem code_pay (a : Vec Ideal S1x512x256 .f32) (b : Vec Ideal S512x1 .f32) (j) : k0_pay1 (F := Ideal) a b j = min (Ideal.ofBits FTy.f32 1138753536#32)
      (max (Ideal.ofBits FTy.f32 3286237184#32) ((a (ix3 0 (j 0) (j 1)) : EReal) * b (ix2 (j 0) 0))) := by
  pointwise [k0_pay1]

/-- The greatest of the maxima kept in the lanes of a row. -/
def laneMax (v : Vec Ideal S512x128 .f32) (y : Fin 512) : EReal :=
  Finset.univ.fold max (Ideal.ofBits .f32 4286578688#32) fun x : Fin 128 => (v (ix2 y x) : EReal)

theorem expo_pay (v : Vec Ideal S512x128 .f32) (y : Fin 512) : k0_pay6 (F := Ideal) v (ix2 y 0) = BitVec.ofInt 32 (Quantiser.expo (laneMax v y * Quantiser.recip)) := by
  rw [← Quantiser.word_eq]
  pointwise [k0_pay6, laneMax]

theorem scale_pay (v : Vec Ideal S512x128 .f32) (y : Fin 512) (x : Fin 128) : k0_pay7 (F := Ideal) v (ix2 y x) = Quantiser.scale (laneMax v y) := by
  have e : k0_pay7 (F := Ideal) v (ix2 y x) = Ideal.ofBits FTy.f32 (IntOp.shli ArithUnit.vector (IntOp.addi (k0_pay6 v (ix2 y 0)) 127#32) 23#32) := by
    pointwise [k0_pay7]
  rw [e, expo_pay]
  exact Quantiser.scale_word _ (Quantiser.expo_range _)

theorem inv_pay (v : Vec Ideal S512x128 .f32) (y : Fin 512) (x : Fin 128) : k0_pay8 (F := Ideal) v (ix2 y x) = Quantiser.inv (laneMax v y) := by
  have e : k0_pay8 (F := Ideal) v (ix2 y x) = Ideal.ofBits FTy.f32 (IntOp.shli ArithUnit.vector (IntOp.subi 127#32 (k0_pay6 v (ix2 y 0))) 23#32) := by
    pointwise [k0_pay8]
  rw [e, expo_pay]
  exact Quantiser.inv_word _ (Quantiser.expo_range _)

/-! ## What the kept buffers hold, in the arrays' coordinates -/

variable (m : (ℓ : Loc nD τ sig) → Buf (Elt Ideal) ℓ)

/-- Which blocks the windows hold at a point that computes a tile. -/
theorem idx_in : ∀ t : Fin cfg0.N, t.val < 576 → win0_0.index t = ![t.val / 72, 0] ∧ win0_1.index t = ![t.val / 72, 0]
    ∧ win0_2.index t = ![0, t.val % 72] ∧ win0_3.index t = ![0, t.val % 72]
    ∧ win0_4.index t = ![0, t.val % 72] ∧ win0_5.index t = ![0, t.val % 72] :=
  (by decide +kernel : ∀ t : Fin grid0.N, _)

/-- Which blocks the windows of the results hold at a point that stores codes. -/
theorem idx_out : ∀ t : Fin cfg0.N, 72 ≤ t.val → win0_6.index t = ![t.val / 72 - 1, t.val % 72] ∧ win0_7.index t = ![t.val / 72 - 1, 0] :=
  (by decide +kernel : ∀ t : Fin grid0.N, _)

/-- The gated product of the arrays the kernel is given. -/
abbrev full (c : Dev nD) : Fin 4096 → Fin 18432 → EReal :=
  GateupSpec.gated (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))

/-- One entry of the gated product, computed from the blocks at its point. -/
theorem act_apply (c : Dev nD) (t : Fin cfg0.N) (ht : t.val < 576) (y : Fin 512) (z : Fin 256) :
    k0_pay3 (F := Ideal) (View.ld (iblk m c 0 t) rAct) (View.ld (iblk m c 1 t) rCol) (View.ld (iblk m c 2 t) rWeight) (View.ld (iblk m c 4 t) rScale)
      (View.ld (iblk m c 3 t) rWeight) (View.ld (iblk m c 5 t) rScale) (ix2 y z)
      = full m c ⟨512 * (t.val / 72) + y.val, by omega⟩ ⟨256 * (t.val % 72) + z.val, by omega⟩ := by
  rw [gated_apply]
  obtain ⟨h0, h1, h2, h3, h4, h5⟩ := idx_in t ht
  pointwise [full, GateupSpec.gated, GateupSpec.proj]
  blk_point [iblk, V, h0, h1, h2, h3, h4, h5]

/-- One entry of a tile held. -/
theorem tile_apply (c : Dev nD) (n : ℕ) (hn : n < 576) (y : Fin 512) (z : Fin 256) :
    tile m c n (ix3 0 y z) = full m c ⟨512 * (n / 72) + y.val, by omega⟩ ⟨256 * (n % 72) + z.val, by omega⟩ := by
  have e := act_apply m c ⟨n, lt_of_lt_of_eq (by omega : n < 648) N_0.symm⟩ hn y z
  have hp : pt n = ⟨n, lt_of_lt_of_eq (by omega : n < 648) N_0.symm⟩ := Fin.ext (Nat.mod_eq_of_lt (by omega))
  unfold tile tileAct
  rw [hp]
  exact (tile_pay _ _ _ _ _ _ _).trans e

theorem ld_lane (M : Vec Ideal S512x128 .f32) : View.ld M rLane = M := by
  funext j
  pointwise []

/-- The maxima kept in the lanes after a row of tiles, taken together, are the row's greatest magnitude. -/
theorem laneMax_apply (c : Dev nD) (i : ℕ) (hi : i < 8) (y : Fin 512) :
    laneMax (View.ld (maxAt m c i 72) rLane) y = GateupSpec.rowMax (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) ⟨512 * i + y.val, by omega⟩ := by
  rw [ld_lane]
  refine GateupSpec.fold_lanes _ (fun k => GateupSpec.abs_nonneg _) (fun j x => maxAt m c i j (ix2 y x)) (fun x => zero_pay _) fun j hj x => ?_
  show tileMax _ _ _ _ _ _ (maxAt m c i j) (ix2 y x) = _
  have hp : pt (72 * i + j) = ⟨72 * i + j, lt_of_lt_of_eq (by omega : 72 * i + j < 648) N_0.symm⟩ := Fin.ext (Nat.mod_eq_of_lt (by omega))
  have e := fun z => act_apply m c ⟨72 * i + j, lt_of_lt_of_eq (by omega : 72 * i + j < 648) N_0.symm⟩ (by show 72 * i + j < 576; omega) y z
  unfold tileMax
  rw [hp]
  refine (max_pay _ _ _ _ _ _ _ y x).trans ?_
  refine congrArg₂ max (congrFun (ld_lane _) _) (congrArg₂ max (congrArg _ ((e _).trans ?_)) (congrArg _ ((e _).trans ?_)))
  · exact congrArg₂ (full m c) (Fin.ext (by show 512 * ((72 * i + j) / 72) + y.val = 512 * i + y.val; omega))
      (Fin.ext (by show 256 * ((72 * i + j) % 72) + x.val = 256 * j + x.val; omega))
  · exact congrArg₂ (full m c) (Fin.ext (by show 512 * ((72 * i + j) / 72) + y.val = 512 * i + y.val; omega))
      (Fin.ext (by show 256 * ((72 * i + j) % 72) + (128 + x.val) = 256 * j + (128 + x.val); omega))

/-- The greatest magnitude of a row of the gated product of the arrays the kernel is given. -/
abbrev fullMax (c : Dev nD) : Fin 4096 → EReal :=
  GateupSpec.rowMax (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))

/-- One code of the block stored at a point. -/
theorem codesAt_apply (c : Dev nD) (n : ℕ) (h : 72 ≤ n) (hn : n < 648) (j : S512x256.Idx) (r : Fin 4096) (k : Fin 18432)
    (hr : r.val = 512 * (n / 72 - 1) + (j 0).val) (hk : k.val = 256 * (n % 72) + (j 1).val) :
    codesAt m c n j = Quantiser.code (full m c r k) (fullMax m c r) := by
  have et : tile m c (n - 72) (ix3 0 (j 0) (j 1)) = full m c r k :=
    (tile_apply m c (n - 72) (by omega) (j 0) (j 1)).trans (congrArg₂ (full m c)
      (Fin.ext (by show 512 * ((n - 72) / 72) + (j 0).val = r.val; omega)) (Fin.ext (by show 256 * ((n - 72) % 72) + (j 1).val = k.val; omega)))
  have ei : View.ld (invAt m c n) rCol (ix2 (j 0) 0) = Quantiser.inv (fullMax m c r) := by
    have e : ∀ I : Vec Ideal S512x128 .f32, View.ld I rCol (ix2 (j 0) 0) = I (ix2 (j 0) 0) := by intro I; pointwise []
    refine (e _).trans ((inv_pay _ (j 0) 0).trans (congrArg Quantiser.inv ((laneMax_apply m c (n / 72 - 1) (by omega) (j 0)).trans ?_)))
    exact congrArg (fullMax m c) (Fin.ext hr.symm)
  refine (code_pay _ _ j).trans ?_
  rw [et, ei]
  rfl

/-- One scale of the block stored at a point. -/
theorem scaleAt_apply (c : Dev nD) (n : ℕ) (h : 72 ≤ n) (hn : n < 648) (j : S512x128.Idx) (r : Fin 4096)
    (hr : r.val = 512 * (n / 72 - 1) + (j 0).val) : scaleAt m c n j = Quantiser.scale (fullMax m c r) := by
  have hj : j = ix2 (j 0) (j 1) := by funext a; fin_cases a <;> rfl
  unfold scaleAt
  rw [hj]
  refine (scale_pay _ (j 0) (j 1)).trans (congrArg Quantiser.scale ((laneMax_apply m c (n / 72 - 1) (by omega) (j 0)).trans ?_))
  exact congrArg (fullMax m c) (Fin.ext hr.symm)

/-! ## The arrays after the run -/

/-- The codes. -/
theorem final6 (c : Dev nD) : (dats m 0 c).arrAt 6 (cfgs 0).N
    = GateupSpec.codes (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  have ht : 72 ≤ t.val := of_decide_eq_true ((flush6 t).symm.trans hf)
  have hN : t.val < 648 := lt_of_lt_of_eq t.isLt N_0
  obtain ⟨h6, h7⟩ := idx_out t ht
  blk_simp
  rw [after0_6]
  exact codesAt_apply m c t.val ht hN y _ _ (by blk_simp [h6]; omega) (by blk_simp [h6]; omega)

/-- The scales. -/
theorem final7 (c : Dev nD) : (dats m 0 c).arrAt 7 (cfgs 0).N
    = GateupSpec.scales (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t hf y => ?_
  have ht : 72 ≤ t.val := (of_decide_eq_true ((flush7 t).symm.trans hf)).1
  have hN : t.val < 648 := lt_of_lt_of_eq t.isLt N_0
  obtain ⟨h6, h7⟩ := idx_out t ht
  blk_simp
  rw [after0_7]
  exact scaleAt_apply m c t.val ht hN y _ (by blk_simp [h7]; omega)

end Cert.GateupIdeal.Result

end
-- ==== Proof.GateupRefValue.lean ====
module

public import proofs.«01_k».proof.Proof.Gen.GateupRefIdeal.Frame
public import proofs.«01_k».proof.Proof.Gen.GateupRefIdeal.Points
public import proofs.«01_k».proof.Proof.Gen.GateupRefIdeal.Launch
public import proofs.«01_k».proof.Proof.GateupSpec
public import Idealize.ShloMosaic.Lib.Pipeline.ValueKit
public import Idealize.ShloMosaic.Lib.Pipeline.ReadBack

@[expose] public section
set_option maxRecDepth 16384

noncomputable section

namespace Cert.GateupRefIdeal.Result

open Idealize.ShloMosaic Idealize.ShloMosaic.TcCoe Idealize.SL.Sem
open Idealize.ShloMosaic.Pipeline (Dat)
open Cert.GateupRefIdeal Cert.GateupRefIdeal.Gen

variable (m : (ℓ : Loc nD τ sig) → Buf (Elt Ideal) ℓ)

/-! ## What the reference's values are -/

theorem rowMax_apply (v0 v1 v2 v3 v12 v13 j) : k0_pay5 (F := Ideal) v0 v1 v2 v3 v0 v1 v12 v13 j
    = Finset.univ.fold max (Ideal.ofBits .f32 4286578688#32) fun k : Fin 18432 =>
      (FloatOps.absf (F := Ideal) (φ := .f32) (k0_pay4 v0 v1 v2 v3 v0 v1 v12 v13 (ix2 (j 0) k)) : EReal) := by
  pointwise [k0_pay5]

theorem gated_apply (v0 v1 v2 v3 v12 v13 j) : k0_pay4 (F := Ideal) v0 v1 v2 v3 v0 v1 v12 v13 j
    = GateupSpec.gate ((∑ k : Fin 7168, v0 (ix2 (j 0) k) * v2 (ix2 k (j 1))) * v1 (ix2 (j 0) 0) * v3 (ix2 0 (j 1)))
      ((∑ k : Fin 7168, v0 (ix2 (j 0) k) * v12 (ix2 k (j 1))) * v1 (ix2 (j 0) 0) * v13 (ix2 0 (j 1))) := by
  pointwise [k0_pay4, GateupSpec.gate]

theorem above_of (w : FVec Ideal S4096x1 .f32) (j) : cmpf .ogt (broadcastTo S4096x253 (exp2 (k0_pay6 (F := Ideal))) broadcasts_S1x253_S4096x253)
      (broadcastTo S4096x253 (mulf w (broadcast S4096x1 (Scalar.ofBits .f32 0x3B124925#32))) broadcasts_S4096x1_S4096x253) j
    = BitVec.ofBool (decide ((w (ix2 (j 0) 0) : EReal) * Ideal.ofBits FTy.f32 991054117#32 <
          FloatOps.exp2 (F := Ideal) (φ := .f32) ((FloatOps.sitofp (F := Ideal) FTy.f32 (BitVec.ofNat 32 ↑(j 1)) : EReal) - Ideal.ofBits FTy.f32 1123811328#32))) := by
  pointwise [k0_pay6]

theorem above_apply (v0 v1 v2 v3 v12 v13 j) : k0_pay7 (F := Ideal) v0 v1 v2 v3 v0 v1 v12 v13 j
    = BitVec.ofBool (decide ((k0_pay5 (F := Ideal) v0 v1 v2 v3 v0 v1 v12 v13 (ix2 (j 0) 0) : EReal) * Ideal.ofBits FTy.f32 991054117#32 <
          FloatOps.exp2 (F := Ideal) (φ := .f32) ((FloatOps.sitofp (F := Ideal) FTy.f32 (BitVec.ofNat 32 ↑(j 1)) : EReal) - Ideal.ofBits FTy.f32 1123811328#32))) := by
  unfold k0_pay7
  exact above_of _ j

theorem table_apply (j) : k0_pay8 (F := Ideal) j = (FloatOps.sitofp (F := Ideal) FTy.f32 (BitVec.ofNat 32 ↑(j 1)) : EReal) - Ideal.ofBits FTy.f32 1123811328#32 := by
  pointwise [k0_pay8, k0_pay6]

theorem least_apply (a b c d j) : k0_pay1 (F := Ideal) a b c d j = if (a j : EReal) = 0 then (0 : EReal) else
      Finset.fold min (Ideal.ofBits FTy.f32 2139095040#32) (fun x : Fin 253 => (Scalar.select (b (ix2 (j 0) x)) (d (ix2 (j 0) x)) c : EReal)) Finset.univ := by
  pointwise [k0_pay1]

theorem expo_apply (v0 v1 v2 v3 v12 v13) (r : Fin 4096) :
    k0_pay1 (F := Ideal) (k0_pay5 v0 v1 v2 v3 v0 v1 v12 v13) (k0_pay7 v0 v1 v2 v3 v0 v1 v12 v13) (Scalar.ofBits .f32 0x42FC0000#32) k0_pay8 (ix2 r 0)
      = (((Quantiser.expo ((k0_pay5 (F := Ideal) v0 v1 v2 v3 v0 v1 v12 v13 (ix2 r 0) : EReal) * Quantiser.recip) : ℤ) : ℝ) : EReal) := by
  rw [least_apply, ← Quantiser.table_eq]
  simp only [above_apply, table_apply]
  rfl

theorem code_of (h : FVec Ideal S4096x18432 .f32) (a b c d j) : k0_pay2 (F := Ideal) h a b c d j = min (Ideal.ofBits FTy.f32 1138753536#32)
      (max (Ideal.ofBits FTy.f32 3286237184#32) ((h j : EReal) * FloatOps.exp2 (F := Ideal) (φ := .f32) ((0 : EReal) - k0_pay1 (F := Ideal) a b c d (ix2 (j 0) 0)))) := by
  pointwise [k0_pay2]

theorem code_apply (h v0 v1 v2 v3 v12 v13 j) :
    k0_pay2 (F := Ideal) h (k0_pay5 v0 v1 v2 v3 v0 v1 v12 v13) (k0_pay7 v0 v1 v2 v3 v0 v1 v12 v13) (Scalar.ofBits .f32 0x42FC0000#32) k0_pay8 j
      = Quantiser.code (h j) (k0_pay5 (F := Ideal) v0 v1 v2 v3 v0 v1 v12 v13 (ix2 (j 0) 0)) := by
  refine (code_of h _ _ _ _ j).trans ?_
  refine (congrArg (fun x : EReal => min (Ideal.ofBits FTy.f32 1138753536#32)
      (max (Ideal.ofBits FTy.f32 3286237184#32) ((h j : EReal) * FloatOps.exp2 (F := Ideal) (φ := .f32) ((0 : EReal) - x)))) (expo_apply v0 v1 v2 v3 v12 v13 (j 0))).trans ?_
  exact congrArg (fun x : EReal => min (Ideal.ofBits FTy.f32 1138753536#32) (max (Ideal.ofBits FTy.f32 3286237184#32) ((h j : EReal) * x))) (Quantiser.exp2_neg _)

theorem scale_of (a b c d j) : k0_pay3 (F := Ideal) a b c d j = FloatOps.exp2 (F := Ideal) (φ := .f32) (k0_pay1 (F := Ideal) a b c d (ix2 (j 0) 0)) := by
  pointwise [k0_pay3]

theorem scale_apply (v0 v1 v2 v3 v12 v13 j) :
    k0_pay3 (F := Ideal) (k0_pay5 v0 v1 v2 v3 v0 v1 v12 v13) (k0_pay7 v0 v1 v2 v3 v0 v1 v12 v13) (Scalar.ofBits .f32 0x42FC0000#32) k0_pay8 j
      = Quantiser.scale (k0_pay5 (F := Ideal) v0 v1 v2 v3 v0 v1 v12 v13 (ix2 (j 0) 0)) := by
  refine (scale_of _ _ _ _ j).trans ?_
  exact (congrArg (FloatOps.exp2 (F := Ideal) (φ := .f32)) (expo_apply v0 v1 v2 v3 v12 v13 (j 0))).trans (Quantiser.exp2_int _)

/-! ## The arrays -/

/-- Every window holds its whole array at the only grid point. -/
theorem idx : ∀ t : Fin cfg0.N, win0_0.index t = ![0, 0] ∧ win0_1.index t = ![0, 0]
    ∧ win0_2.index t = ![0, 0] ∧ win0_3.index t = ![0, 0]
    ∧ win0_4.index t = ![0, 0] ∧ win0_5.index t = ![0, 0]
    ∧ win0_6.index t = ![0, 0]
    ∧ win0_7.index t = ![0, 0] :=
  (by decide +kernel : ∀ t : Fin grid0.N, _)

/-- The reference's scales. -/
theorem final7 (c : Dev nD) : (dats m 0 c).arrAt 7 (cfgs 0).N
    = GateupSpec.scales (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t _ y => ?_
  blk_simp
  rw [after0_7]
  frame_out
  unfold k0_pay9 k0_pay10 k0_pay11
  rw [scale_apply, rowMax_apply]
  simp only [gated_apply]
  pointwise [GateupSpec.scales, GateupSpec.rowMax, GateupSpec.gated, GateupSpec.proj]
  blk_point [iblk, V, idx t]

/-- The reference's codes. -/
theorem final6 (c : Dev nD) : (dats m 0 c).arrAt 6 (cfgs 0).N
    = GateupSpec.codes (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  frame_out
  unfold k0_pay9 k0_pay10 k0_pay11
  rw [code_apply, rowMax_apply]
  simp only [gated_apply]
  pointwise [GateupSpec.codes, GateupSpec.rowMax, GateupSpec.gated, GateupSpec.proj]
  blk_point [iblk, V, idx t]

end Cert.GateupRefIdeal.Result

end
-- ==== Proof.OprojBitsStep.lean ====
module

public import proofs.«01_k».proof.Proof.Gen.Oproj.Frame
public import proofs.«01_k».proof.Proof.Gen.Oproj.Skeleton
public import Idealize.ShloMosaic.Lib.Pipeline.ValueKit
public import Idealize.ShloMosaic.Lib.Pipeline.ReadBack

/-! What one grid point of the output projection's kernel does to its buffers, whatever the floats are. -/

@[expose] public section
set_option maxRecDepth 16384

noncomputable section

namespace Cert.Oproj.Result

open Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The boxes the body reads and writes -/

abbrev rCtx : Rect S512x7680 := Rect.unit (s := S512x7680) ![0, 0] S512x7680.size inb_S512x7680_S512x7680_0_0
abbrev rCol : Rect S512x128 := Rect.unit (s := S512x128) ![0, 0] S512x1.size inb_S512x128_S512x1_0_0
abbrev rWeight : Rect S7680x512 := Rect.unit (s := S7680x512) ![0, 0] S7680x512.size inb_S7680x512_S7680x512_0_0
abbrev rScale : Rect S1x512 := Rect.unit (s := S1x512) ![0, 0] S1x512.size inb_S1x512_S1x512_0_0
abbrev rTile : Rect S512x512 := Rect.unit (s := S512x512) ![0, 0] S512x512.size inb_S512x512_S512x512_0_0

/-! ## What the body leaves -/

/-- The point's tile of the projection, from the point's blocks. -/
def tileAttn (x0 : Vec F S512x7680 .fp8e4m3) (x1 : Vec F S512x128 .f32) (x2 : Vec F S7680x512 .fp8e4m3) (x3 : Vec F S1x512 .f32) : Vec F S512x512 .f32 :=
  k0_pay1 (View.ld x0 rCtx) (View.ld x2 rWeight) (View.ld x1 rCol) (View.ld x3 rScale)

/-- The point's tile of the rows to be normalised: the input's tile plus the projection's. -/
def tileRow (x0 : Vec F S512x7680 .fp8e4m3) (x1 : Vec F S512x128 .f32) (x2 : Vec F S7680x512 .fp8e4m3) (x3 : Vec F S1x512 .f32) (x4 : Vec F S512x512 .bf16) : Vec F S1x512x512 .f32 :=
  k0_pay2 (View.ld x0 rCtx) (View.ld x2 rWeight) (View.ld x1 rCol) (View.ld x3 rScale) (View.ld x4 rTile)

/-- The tiles held after the point. -/
def nextRows (i : grid0.Coords) (x0 : Vec F S512x7680 .fp8e4m3) (x1 : Vec F S512x128 .f32) (x2 : Vec F S7680x512 .fp8e4m3) (x3 : Vec F S1x512 .f32) (x4 : Vec F S512x512 .bf16) (A : Vec F S14x512x512 .f32) : Vec F S14x512x512 .f32 :=
  fun y => if (y 0).val = (i 1).val then tileRow x0 x1 x2 x3 x4 (ix3 0 (y 1) (y 2)) else A y

/-- One tile of the tiles held. -/
def slice (n : Fin 14) (A : Vec F S14x512x512 .f32) : Vec F S1x512x512 .f32 := fun y => A (ix3 n (y 1) (y 2))

/-- The gains of one tile's columns. -/
def part (n : Fin 14) (g : Vec F S1x7168 .f32) : Vec F S1x512 .f32 :=
  fun y => g (ix2 0 ⟨512 * n.val + (y 1).val, by have h1 : (y 1).val < 512 := (y 1).isLt; have h2 := n.isLt; show _ < 7168; omega⟩)

/-- The sums of squares over the first eleven tiles. -/
def sumA (A : Vec F S14x512x512 .f32) : FVec F S512x1 .f32 :=
  k0_pay7 (k0_pay5 (slice 0 A) (slice 1 A) (slice 2 A) (slice 3 A) (slice 4 A)) (k0_pay6 (slice 5 A)) (slice 6 A) (slice 7 A) (slice 8 A) (slice 9 A) (slice 10 A)

/-- The reciprocal roots of the rows. -/
def root (A : Vec F S14x512x512 .f32) : FVec F S512x1 .f32 := k0_pay9 (sumA A) (k0_pay8 (slice 11 A)) (slice 12 A) (slice 13 A)

/-- The running row maximum over the first tile. -/
def maxA (A : Vec F S14x512x512 .f32) (g : Vec F S1x7168 .f32) : FVec F S512x1 .f32 :=
  k0_pay10 (sumA A) (k0_pay8 (slice 11 A)) (slice 12 A) (slice 13 A) (slice 0 A) (part 0 g)

/-- The running row maximum over the first four tiles. -/
def maxB (A : Vec F S14x512x512 .f32) (g : Vec F S1x7168 .f32) : FVec F S512x1 .f32 :=
  k0_pay13 (root A) (maxA A g) (k0_pay11 (sumA A) (k0_pay8 (slice 11 A)) (slice 12 A) (slice 13 A) (slice 1 A)) (k0_pay12 (part 1 g)) (slice 2 A) (part 2 g) (slice 3 A) (part 3 g)

/-- The running row maximum over the first eight tiles. -/
def maxC (A : Vec F S14x512x512 .f32) (g : Vec F S1x7168 .f32) : FVec F S512x1 .f32 :=
  k0_pay15 (root A) (maxB A g) (k0_pay14 (root A) (slice 4 A) (part 4 g)) (slice 5 A) (part 5 g) (slice 6 A) (part 6 g) (slice 7 A) (part 7 g)

/-- The running row maximum over the first eleven tiles. -/
def maxD (A : Vec F S14x512x512 .f32) (g : Vec F S1x7168 .f32) : FVec F S512x1 .f32 :=
  k0_pay17 (root A) (maxC A g) (k0_pay16 (slice 8 A)) (part 8 g) (slice 9 A) (part 9 g) (slice 10 A) (part 10 g)

/-- The row maximum over all tiles, divided by the largest code. -/
def ratio (A : Vec F S14x512x512 .f32) (g : Vec F S1x7168 .f32) : FVec F S512x1 .f32 :=
  k0_pay20 (root A) (maxD A g) (k0_pay18 (root A) (slice 11 A)) (k0_pay19 (part 11 g)) (slice 12 A) (part 12 g) (slice 13 A) (part 13 g)

/-- The number of powers of two not above the ratio. -/
def counts (A : Vec F S14x512x512 .f32) (g : Vec F S1x7168 .f32) : IVec S512 32 :=
  k0_pay21 (root A) (maxD A g) (k0_pay18 (root A) (slice 11 A)) (k0_pay19 (part 11 g)) (slice 12 A) (part 12 g) (slice 13 A) (part 13 g)

/-- The scales. -/
def scales (A : Vec F S14x512x512 .f32) (g : Vec F S1x7168 .f32) : FVec F S512x1 .f32 := k0_pay23 (ratio A g) (counts A g)

/-- The reciprocal scales. -/
def invs (A : Vec F S14x512x512 .f32) (g : Vec F S1x7168 .f32) : FVec F S512x1 .f32 := k0_pay24 (ratio A g) (counts A g)

/-- One tile of codes. -/
def codeTile (n : Fin 14) (A : Vec F S14x512x512 .f32) (g : Vec F S1x7168 .f32) : Vec F S512x512 .fp8e4m3 :=
  k0_pay3 (root A) (invs A g) (slice n A) (part n g)

/-- The codes of a block of rows. -/
def codes (A : Vec F S14x512x512 .f32) (g : Vec F S1x7168 .f32) : Vec F S512x7168 .fp8e4m3 :=
  fun y => codeTile ⟨(y 1).val / 512, by have h : (y 1).val < 7168 := (y 1).isLt; omega⟩ A g (ix2 (y 0) ⟨(y 1).val % 512, Nat.mod_lt _ (by decide)⟩)

/-- The block of codes after the point. -/
def nextCodes (i : grid0.Coords) (x0 : Vec F S512x7680 .fp8e4m3) (x1 : Vec F S512x128 .f32) (x2 : Vec F S7680x512 .fp8e4m3) (x3 : Vec F S1x512 .f32) (x4 : Vec F S512x512 .bf16) (x5 : Vec F S1x7168 .f32) (y7 : Vec F S512x7168 .fp8e4m3) (A : Vec F S14x512x512 .f32) : Vec F S512x7168 .fp8e4m3 :=
  if k0_cond1 i = 1#1 then codes (nextRows i x0 x1 x2 x3 x4 A) x5 else y7

/-- The block of scales after the point. -/
def nextScale (i : grid0.Coords) (x0 : Vec F S512x7680 .fp8e4m3) (x1 : Vec F S512x128 .f32) (x2 : Vec F S7680x512 .fp8e4m3) (x3 : Vec F S1x512 .f32) (x4 : Vec F S512x512 .bf16) (x5 : Vec F S1x7168 .f32) (y8 : Vec F S512x128 .f32) (A : Vec F S14x512x512 .f32) : Vec F S512x128 .f32 :=
  if k0_cond1 i = 1#1 then k0_pay4 (scales (nextRows i x0 x1 x2 x3 x4 A) x5) else y8

theorem off1 : ∀ (i : grid0.Coords) (a : Fin 3), k0_off1 i a = ![(i 1).val, 0, 0] a := by decide +kernel

/-- A buffer stored whole holds what was stored. -/
theorem read_store {sig : RefSig} {κ : Kind} {sp : Space} {S : Shape} {e : EltTy} {Val : EltTy → Type} [∀ e, Nonempty (Val e)] (v : View sig κ sp S e) (f : v.ty.Contents Val)
    {off : Fin S.rank → Nat} (inb : ∀ a, off a + S.size a ≤ S.size a) (w : S.Idx → Val e) (L : List (View.Piece Val S e)) (h : ∀ a, off a = 0) :
    v.read Val (v.writes Val f ((⟨Rect.unit off S.size inb, w⟩ : View.Piece Val S e) :: L)) = w :=
  (View.read_writes_eq_canon v f _ (fun y => ⟨_, List.mem_cons_self, by
    obtain rfl : off = fun _ => 0 := funext h
    show y ∈ (Rect.whole S).set; rw [Rect.set_whole]; exact Finset.mem_univ y⟩)).trans (View.canon_cons_unit_lit inb w L h)

/-- The tiles after one more was stored. -/
theorem read_put {sig : RefSig} {κ : Kind} {sp : Space} (v : View sig κ sp S14x512x512 .f32) (f : v.ty.Contents (Elt F)) (i : grid0.Coords) (inb) (p : Vec F S1x512x512 .f32) :
    v.read (Elt F) (v.writes (Elt F) f [⟨Rect.unit (s := S14x512x512) (k0_off1 i) S1x512x512.size inb, p⟩])
      = fun y => if (y 0).val = (i 1).val then p (ix3 0 (y 1) (y 2)) else v.read (Elt F) f y := by
  funext y
  by_cases hy : (y 0).val = (i 1).val
  · rw [if_pos hy]
    refine View.read_writes_cons_hit_of_coords v f (Rect.unit (s := S14x512x512) (k0_off1 i) S1x512x512.size inb) p [] (ix3 0 (y 1) (y 2)) _ fun a => ?_
    show (y a).val = k0_off1 i a + 1 * _
    rw [off1]
    fin_cases a
    · show (y 0).val = (i 1).val + 1 * 0; omega
    · show (y 1).val = 0 + 1 * (y 1).val; omega
    · show (y 2).val = 0 + 1 * (y 2).val; omega
  · rw [if_neg hy]
    refine View.read_writes_cons_miss_of_axis _ _ _ _ _ 0 (i 1).val 1 (off1 i 0) rfl rfl ?_
    omega

/-- One tile of the tiles held, loaded. -/
theorem ld_slice (n : Fin 14) (off) (inb) (h : off = ![n.val, 0, 0]) (A : Vec F S14x512x512 .f32) :
    View.ld A (Rect.unit (s := S14x512x512) off S1x512x512.size inb) = slice n A := by
  subst h
  funext y
  refine View.ld_unit_apply_of _ _ _ _ _ _ fun a => ?_
  fin_cases a
  · have : (y 0).val = 0 := by have := (y 0).isLt; change _ < 1 at this; omega
    show n.val = n.val + (y 0).val
    omega
  · show (y 1).val = 0 + (y 1).val; omega
  · show (y 2).val = 0 + (y 2).val; omega

/-- The gains of one tile's columns, loaded. -/
theorem ld_part (n : Fin 14) (off) (inb) (h : off = ![0, 512 * n.val]) (g : Vec F S1x7168 .f32) :
    View.ld g (Rect.unit (s := S1x7168) off S1x512.size inb) = part n g := by
  subst h
  funext y
  refine View.ld_unit_apply_of _ _ _ _ _ _ fun a => ?_
  fin_cases a
  · have : (y 0).val = 0 := by have := (y 0).isLt; change _ < 1 at this; omega
    show 0 = 0 + (y 0).val
    omega
  · show 512 * n.val + (y 1).val = 512 * n.val + (y 1).val; rfl

/-- One tile loaded after the point's own was stored. -/
theorem load_slice (n : Fin 14) {sig : RefSig} {κ : Kind} {sp : Space} (v : View sig κ sp S14x512x512 .f32) (f : v.ty.Contents (Elt F)) (i : grid0.Coords) (inb) (p : Vec F S1x512x512 .f32) (off) (inb') (h : off = ![n.val, 0, 0]) :
    View.readAt (Elt F) v (Rect.unit (s := S14x512x512) off S1x512x512.size inb').toLoadRect (v.writes (Elt F) f [⟨Rect.unit (s := S14x512x512) (k0_off1 i) S1x512x512.size inb, p⟩])
      = slice n (fun y => if (y 0).val = (i 1).val then p (ix3 0 (y 1) (y 2)) else v.read (Elt F) f y) :=
  (ld_slice n off inb' h (v.read (Elt F) (v.writes (Elt F) f [⟨Rect.unit (s := S14x512x512) (k0_off1 i) S1x512x512.size inb, p⟩]))).trans (congrArg (slice n) (read_put v f i inb p))

/-- The gains of one tile's columns, read. -/
theorem load_part (n : Fin 14) {sig : RefSig} {κ : Kind} {sp : Space} (v : View sig κ sp S1x7168 .f32) (f : v.ty.Contents (Elt F)) (off) (inb') (h : off = ![0, 512 * n.val]) :
    View.readAt (Elt F) v (Rect.unit (s := S1x7168) off S1x512.size inb').toLoadRect f = part n (v.read (Elt F) f) :=
  ld_part n off inb' h (v.read (Elt F) f)

/-- The codes at a tile's own index. -/
theorem codes_emb (n : Fin 14) (off) (inb) (h : off = ![0, 512 * n.val]) (A : Vec F S14x512x512 .f32) (g : Vec F S1x7168 .f32) (x : S512x512.Idx) :
    codes A g ((Rect.unit (s := S512x7168) off S512x512.size inb).emb x) = codeTile n A g x := by
  subst h
  have h1 : (x 1).val < 512 := (x 1).isLt
  have e0 : ((Rect.unit (s := S512x7168) ![0, 512 * n.val] S512x512.size inb).emb x 0).val = 0 + 1 * (x 0).val := rfl
  have e1 : ((Rect.unit (s := S512x7168) ![0, 512 * n.val] S512x512.size inb).emb x 1).val = 512 * n.val + 1 * (x 1).val := rfl
  unfold codes
  refine congr (congrArg (fun k => codeTile k A g) (Fin.ext ?_)) (funext fun a => ?_)
  · show _ / 512 = n.val; rw [e1]; omega
  · fin_cases a
    · exact Fin.ext (e0.trans (by show 0 + 1 * (x 0).val = (x 0).val; omega))
    · exact Fin.ext (by show _ % 512 = (x 1).val; rw [e1]; omega)

set_option maxHeartbeats 4000000 in
/-- One point of the kernel, on whole buffers at any contents. -/
theorem sound_kernel (c : Dev nD) (E : Set ℕ) (i : grid0.Coords) (arg2 : Memref sig .tc .vmem S512x7680 .fp8e4m3) (harg2 : arg2.IsWhole) (arg3 : Memref sig .tc .vmem S512x128 .f32) (harg3 : arg3.IsWhole) (arg4 : Memref sig .tc .vmem S7680x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x7168 .f32) (harg7 : arg7.IsWhole) (arg8 : Memref sig .tc .vmem S512x512 .f32) (harg8 : arg8.IsWhole) (arg9 : Memref sig .tc .vmem S512x7168 .fp8e4m3) (harg9 : arg9.IsWhole) (arg10 : Memref sig .tc .vmem S512x128 .f32) (harg10 : arg10.IsWhole) (arg11 : Memref sig .tc .vmem S14x512x512 .f32) (harg11 : arg11.IsWhole)
    (x0 : Vec F S512x7680 .fp8e4m3) (x1 : Vec F S512x128 .f32) (x2 : Vec F S7680x512 .fp8e4m3) (x3 : Vec F S1x512 .f32) (x4 : Vec F S512x512 .bf16) (x5 : Vec F S1x7168 .f32)
    (y6 : Vec F S512x512 .f32) (y7 : Vec F S512x7168 .fp8e4m3) (y8 : Vec F S512x128 .f32) (A : Vec F S14x512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tileAttn x0 x1 x2 x3) ∗ owns (c : Thread nD τ) arg9 fullShare (nextCodes i x0 x1 x2 x3 x4 x5 y7 A) ∗ owns (c : Thread nD τ) arg10 fullShare (nextScale i x0 x1 x2 x3 x4 x5 y8 A) ∗ owns (c : Thread nD τ) arg11 fullShare (nextRows i x0 x1 x2 x3 x4 A)) -∗ K ⟨⟩))
      ⊢ wp frame (wpE (defs₀ (F := F)) Variants.none c none) E (cc0_oproj i arg2 harg2 arg3 harg3 arg4 harg4 arg5 harg5 arg6 harg6 arg7 harg7 arg8 harg8 arg9 harg9 arg10 harg10 arg11 harg11) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  by_cases h1 : k0_cond1 i = 1#1
  · sl_exec
    sl_step
    iapply Hk
    obtain ⟨B, hB⟩ : ∃ B, nextRows i (View.read (Elt F) arg2.view f0) (View.read (Elt F) arg3.view f1) (View.read (Elt F) arg4.view f2) (View.read (Elt F) arg5.view f3) (View.read (Elt F) arg6.view f4) (View.read (Elt F) arg11.view f9) = B := ⟨_, rfl⟩
    obtain ⟨g, hg⟩ : ∃ g, View.read (Elt F) arg7.view f5 = g := ⟨_, rfl⟩
    have gp : ∀ (n : Fin 14) (off) (inb') (h : off = ![0, 512 * n.val]), View.readAt (Elt F) arg7.view (Rect.unit (s := S1x7168) off S1x512.size inb').toLoadRect f5 = part n g := fun n off inb' h => (load_part n _ _ off inb' h).trans (congrArg (part n) hg)
    have s0 : sound_kernel.sl.v22 c i arg2 arg3 arg4 arg5 arg6 arg11 f0 f1 f2 f3 f4 f9 = slice 0 B := (load_slice 0 _ _ _ _ _ _ _ rfl).trans (congrArg (slice 0) hB)
    have s1 : sound_kernel.sl.v28 c i arg2 arg3 arg4 arg5 arg6 arg11 f0 f1 f2 f3 f4 f9 = slice 1 B := (load_slice 1 _ _ _ _ _ _ _ rfl).trans (congrArg (slice 1) hB)
    have s2 : sound_kernel.sl.v34 c i arg2 arg3 arg4 arg5 arg6 arg11 f0 f1 f2 f3 f4 f9 = slice 2 B := (load_slice 2 _ _ _ _ _ _ _ rfl).trans (congrArg (slice 2) hB)
    have s3 : sound_kernel.sl.v40 c i arg2 arg3 arg4 arg5 arg6 arg11 f0 f1 f2 f3 f4 f9 = slice 3 B := (load_slice 3 _ _ _ _ _ _ _ rfl).trans (congrArg (slice 3) hB)
    have s4 : sound_kernel.sl.v46 c i arg2 arg3 arg4 arg5 arg6 arg11 f0 f1 f2 f3 f4 f9 = slice 4 B := (load_slice 4 _ _ _ _ _ _ _ rfl).trans (congrArg (slice 4) hB)
    have s5 : sound_kernel.sl.v52 c i arg2 arg3 arg4 arg5 arg6 arg11 f0 f1 f2 f3 f4 f9 = slice 5 B := (load_slice 5 _ _ _ _ _ _ _ rfl).trans (congrArg (slice 5) hB)
    have s6 : sound_kernel.sl.v58 c i arg2 arg3 arg4 arg5 arg6 arg11 f0 f1 f2 f3 f4 f9 = slice 6 B := (load_slice 6 _ _ _ _ _ _ _ rfl).trans (congrArg (slice 6) hB)
    have s7 : sound_kernel.sl.v64 c i arg2 arg3 arg4 arg5 arg6 arg11 f0 f1 f2 f3 f4 f9 = slice 7 B := (load_slice 7 _ _ _ _ _ _ _ rfl).trans (congrArg (slice 7) hB)
    have s8 : sound_kernel.sl.v70 c i arg2 arg3 arg4 arg5 arg6 arg11 f0 f1 f2 f3 f4 f9 = slice 8 B := (load_slice 8 _ _ _ _ _ _ _ rfl).trans (congrArg (slice 8) hB)
    have s9 : sound_kernel.sl.v76 c i arg2 arg3 arg4 arg5 arg6 arg11 f0 f1 f2 f3 f4 f9 = slice 9 B := (load_slice 9 _ _ _ _ _ _ _ rfl).trans (congrArg (slice 9) hB)
    have s10 : sound_kernel.sl.v82 c i arg2 arg3 arg4 arg5 arg6 arg11 f0 f1 f2 f3 f4 f9 = slice 10 B := (load_slice 10 _ _ _ _ _ _ _ rfl).trans (congrArg (slice 10) hB)
    have s11 : sound_kernel.sl.v88 c i arg2 arg3 arg4 arg5 arg6 arg11 f0 f1 f2 f3 f4 f9 = slice 11 B := (load_slice 11 _ _ _ _ _ _ _ rfl).trans (congrArg (slice 11) hB)
    have s12 : sound_kernel.sl.v94 c i arg2 arg3 arg4 arg5 arg6 arg11 f0 f1 f2 f3 f4 f9 = slice 12 B := (load_slice 12 _ _ _ _ _ _ _ rfl).trans (congrArg (slice 12) hB)
    have s13 : sound_kernel.sl.v100 c i arg2 arg3 arg4 arg5 arg6 arg11 f0 f1 f2 f3 f4 f9 = slice 13 B := (load_slice 13 _ _ _ _ _ _ _ rfl).trans (congrArg (slice 13) hB)
    have s13b : sound_kernel.sl.v518 c i arg2 arg3 arg4 arg5 arg6 arg11 f0 f1 f2 f3 f4 f9 = slice 13 B := (load_slice 13 _ _ _ _ _ _ _ rfl).trans (congrArg (slice 13) hB)
    have hr : sound_kernel.sl.r c i arg2 arg3 arg4 arg5 arg6 arg11 f0 f1 f2 f3 f4 f9 = k0_pay5 (slice 0 B) (slice 1 B) (slice 2 B) (slice 3 B) (slice 4 B) := by
      unfold sound_kernel.sl.r
      simp only [s0, s1, s2, s3, s4]
      try rfl
    have hr_1 : sound_kernel.sl.r_1 c i arg2 arg3 arg4 arg5 arg6 arg11 f0 f1 f2 f3 f4 f9 = k0_pay6 (slice 5 B) := by
      unfold sound_kernel.sl.r_1
      simp only [s5]
      try rfl
    have hr_2 : sound_kernel.sl.r_2 c i arg2 arg3 arg4 arg5 arg6 arg11 f0 f1 f2 f3 f4 f9 = sumA B := by
      unfold sound_kernel.sl.r_2
      simp only [hr, hr_1, s6, s7, s8, s9, s10]
      try rfl
    have hr_3 : sound_kernel.sl.r_3 c i arg2 arg3 arg4 arg5 arg6 arg11 f0 f1 f2 f3 f4 f9 = k0_pay8 (slice 11 B) := by
      unfold sound_kernel.sl.r_3
      simp only [s11]
      try rfl
    have hr_4 : sound_kernel.sl.r_4 c i arg2 arg3 arg4 arg5 arg6 arg11 f0 f1 f2 f3 f4 f9 = root B := by
      unfold sound_kernel.sl.r_4
      simp only [hr_2, hr_3, s12, s13]
      try rfl
    have hr_5 : sound_kernel.sl.r_5 c i arg2 arg3 arg4 arg5 arg6 arg7 arg11 f0 f1 f2 f3 f4 f5 f9 = maxA B g := by
      unfold sound_kernel.sl.r_5
      simp only [hr_2, hr_3, s12, s13, s0, gp 0 ![0, 0] inb_S1x7168_S1x512_0_0 rfl]
      try rfl
    have hr_6 : sound_kernel.sl.r_6 c i arg2 arg3 arg4 arg5 arg6 arg11 f0 f1 f2 f3 f4 f9 = k0_pay11 (sumA B) (k0_pay8 (slice 11 B)) (slice 12 B) (slice 13 B) (slice 1 B) := by
      unfold sound_kernel.sl.r_6
      simp only [hr_2, hr_3, s12, s13, s1]
      try rfl
    have hr_7 : sound_kernel.sl.r_7 c arg7 f5 = k0_pay12 (part 1 g) := by
      unfold sound_kernel.sl.r_7
      simp only [gp 1 ![0, 512] inb_S1x7168_S1x512_0_512 rfl]
      try rfl
    have hr_8 : sound_kernel.sl.r_8 c i arg2 arg3 arg4 arg5 arg6 arg7 arg11 f0 f1 f2 f3 f4 f5 f9 = maxB B g := by
      unfold sound_kernel.sl.r_8
      simp only [hr_4, hr_5, hr_6, hr_7, s2, s3, gp 2 ![0, 1024] inb_S1x7168_S1x512_0_1024 rfl, gp 3 ![0, 1536] inb_S1x7168_S1x512_0_1536 rfl]
      try rfl
    have hr_9 : sound_kernel.sl.r_9 c i arg2 arg3 arg4 arg5 arg6 arg7 arg11 f0 f1 f2 f3 f4 f5 f9 = k0_pay14 (root B) (slice 4 B) (part 4 g) := by
      unfold sound_kernel.sl.r_9
      simp only [hr_4, s4, gp 4 ![0, 2048] inb_S1x7168_S1x512_0_2048 rfl]
      try rfl
    have hr_10 : sound_kernel.sl.r_10 c i arg2 arg3 arg4 arg5 arg6 arg7 arg11 f0 f1 f2 f3 f4 f5 f9 = maxC B g := by
      unfold sound_kernel.sl.r_10
      simp only [hr_4, hr_8, hr_9, s5, s6, s7, gp 5 ![0, 2560] inb_S1x7168_S1x512_0_2560 rfl, gp 6 ![0, 3072] inb_S1x7168_S1x512_0_3072 rfl, gp 7 ![0, 3584] inb_S1x7168_S1x512_0_3584 rfl]
      try rfl
    have hr_11 : sound_kernel.sl.r_11 c i arg2 arg3 arg4 arg5 arg6 arg11 f0 f1 f2 f3 f4 f9 = k0_pay16 (slice 8 B) := by
      unfold sound_kernel.sl.r_11
      simp only [s8]
      try rfl
    have hr_12 : sound_kernel.sl.r_12 c i arg2 arg3 arg4 arg5 arg6 arg7 arg11 f0 f1 f2 f3 f4 f5 f9 = maxD B g := by
      unfold sound_kernel.sl.r_12
      simp only [hr_4, hr_10, hr_11, s9, s10, gp 8 ![0, 4096] inb_S1x7168_S1x512_0_4096 rfl, gp 9 ![0, 4608] inb_S1x7168_S1x512_0_4608 rfl, gp 10 ![0, 5120] inb_S1x7168_S1x512_0_5120 rfl]
      try rfl
    have hr_13 : sound_kernel.sl.r_13 c i arg2 arg3 arg4 arg5 arg6 arg11 f0 f1 f2 f3 f4 f9 = k0_pay18 (root B) (slice 11 B) := by
      unfold sound_kernel.sl.r_13
      simp only [hr_4, s11]
      try rfl
    have hr_14 : sound_kernel.sl.r_14 c arg7 f5 = k0_pay19 (part 11 g) := by
      unfold sound_kernel.sl.r_14
      simp only [gp 11 ![0, 5632] inb_S1x7168_S1x512_0_5632 rfl]
      try rfl
    have hr_15 : sound_kernel.sl.r_15 c i arg2 arg3 arg4 arg5 arg6 arg7 arg11 f0 f1 f2 f3 f4 f5 f9 = ratio B g := by
      unfold sound_kernel.sl.r_15
      simp only [hr_4, hr_12, hr_13, hr_14, s12, s13, gp 12 ![0, 6144] inb_S1x7168_S1x512_0_6144 rfl, gp 13 ![0, 6656] inb_S1x7168_S1x512_0_6656 rfl]
      try rfl
    have hr_16 : sound_kernel.sl.r_16 c i arg2 arg3 arg4 arg5 arg6 arg7 arg11 f0 f1 f2 f3 f4 f5 f9 = counts B g := by
      unfold sound_kernel.sl.r_16
      simp only [hr_4, hr_12, hr_13, hr_14, s12, s13, gp 12 ![0, 6144] inb_S1x7168_S1x512_0_6144 rfl, gp 13 ![0, 6656] inb_S1x7168_S1x512_0_6656 rfl]
      try rfl
    have hr_17 : sound_kernel.sl.r_17 c i arg2 arg3 arg4 arg5 arg6 arg7 arg11 f0 f1 f2 f3 f4 f5 f9 = scales B g := by
      unfold sound_kernel.sl.r_17
      simp only [hr_15, hr_16]
      try rfl
    have hr_18 : sound_kernel.sl.r_18 c i arg2 arg3 arg4 arg5 arg6 arg7 arg11 f0 f1 f2 f3 f4 f5 f9 = invs B g := by
      unfold sound_kernel.sl.r_18
      simp only [hr_15, hr_16]
      try rfl
    have hr_19 : sound_kernel.sl.r_19 c i arg2 arg3 arg4 arg5 arg6 arg11 f0 f1 f2 f3 f4 f9 = k0_pay26 (root B) (slice 1 B) := by
      unfold sound_kernel.sl.r_19
      simp only [hr_4, s1]
      try rfl
    have hr_20 : sound_kernel.sl.r_20 c arg7 f5 = (part 1 g) := by
      unfold sound_kernel.sl.r_20
      simp only [gp 1 ![0, 512] inb_S1x7168_S1x512_0_512 rfl]
      try rfl
    have hr_21 : sound_kernel.sl.r_21 c i arg2 arg3 arg4 arg5 arg6 arg7 arg11 f0 f1 f2 f3 f4 f5 f9 = k0_pay29 (root B) (invs B g) (slice 3 B) (part 3 g) := by
      unfold sound_kernel.sl.r_21
      simp only [hr_4, hr_18, s3, gp 3 ![0, 1536] inb_S1x7168_S1x512_0_1536 rfl]
      try rfl
    have hr_22 : sound_kernel.sl.r_22 c i arg2 arg3 arg4 arg5 arg6 arg11 f0 f1 f2 f3 f4 f9 = k0_pay36 (root B) (slice 8 B) := by
      unfold sound_kernel.sl.r_22
      simp only [hr_4, s8]
      try rfl
    have hr_23 : sound_kernel.sl.r_23 c i arg2 arg3 arg4 arg5 arg6 arg7 arg11 f0 f1 f2 f3 f4 f5 f9 = k0_pay39 (root B) (invs B g) (slice 10 B) (part 10 g) := by
      unfold sound_kernel.sl.r_23
      simp only [hr_4, hr_18, s10, gp 10 ![0, 5120] inb_S1x7168_S1x512_0_5120 rfl]
      try rfl
    have hr_24 : sound_kernel.sl.r_24 c i arg2 arg3 arg4 arg5 arg6 arg7 arg11 f0 f1 f2 f3 f4 f5 f9 = k0_pay42 (root B) (invs B g) (slice 12 B) (part 12 g) := by
      unfold sound_kernel.sl.r_24
      simp only [hr_4, hr_18, s12, gp 12 ![0, 6144] inb_S1x7168_S1x512_0_6144 rfl]
      try rfl
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact read_store _ _ _ _ _ (by decide)
    isplitl [H7]
    · iexists _; isplitr; swap; · iexact H7
      ipureintro
      unfold nextCodes; rw [if_pos h1, hB, hg]
      refine funext fun y => View.read_writes_apply_of_pieces _ _ (codes B g) _ (View.PiecesOf.mem (L := [_, _, _, _, _, _, _, _, _, _, _, _, _, _]) ⟨?_, ?_, ?_, ?_, ?_, ?_, ?_, ?_, ?_, ?_, ?_, ?_, ?_, ?_, trivial⟩) y (View.cover_of_tiled _ ![512, 512] rfl y)
      · intro x; refine Eq.trans ?_ (codes_emb 13 ![0, 6656] inb_S512x7168_S512x512_0_6656 rfl _ _ x).symm; dsimp only; rw [hr_4, hr_18, s13b, (show View.readAt (Elt F) arg7.view (Rect.unit (s := S1x7168) ![0, 6656] ![1, 512] inb_S1x7168_S1x512_0_6656).toLoadRect f5 = part 13 g from gp 13 _ _ rfl)]; rfl
      · intro x; refine Eq.trans ?_ (codes_emb 12 ![0, 6144] inb_S512x7168_S512x512_0_6144 rfl _ _ x).symm; dsimp only; rw [hr_24]; rfl
      · intro x; refine Eq.trans ?_ (codes_emb 11 ![0, 5632] inb_S512x7168_S512x512_0_5632 rfl _ _ x).symm; dsimp only; rw [hr_4, hr_18, s11, (show View.readAt (Elt F) arg7.view (Rect.unit (s := S1x7168) ![0, 5632] ![1, 512] inb_S1x7168_S1x512_0_5632).toLoadRect f5 = part 11 g from gp 11 _ _ rfl)]; rfl
      · intro x; refine Eq.trans ?_ (codes_emb 10 ![0, 5120] inb_S512x7168_S512x512_0_5120 rfl _ _ x).symm; dsimp only; rw [hr_23]; rfl
      · intro x; refine Eq.trans ?_ (codes_emb 9 ![0, 4608] inb_S512x7168_S512x512_0_4608 rfl _ _ x).symm; dsimp only; rw [hr_4, hr_18, s9, (show View.readAt (Elt F) arg7.view (Rect.unit (s := S1x7168) ![0, 4608] ![1, 512] inb_S1x7168_S1x512_0_4608).toLoadRect f5 = part 9 g from gp 9 _ _ rfl)]; rfl
      · intro x; refine Eq.trans ?_ (codes_emb 8 ![0, 4096] inb_S512x7168_S512x512_0_4096 rfl _ _ x).symm; dsimp only; rw [hr_18, hr_22, (show View.readAt (Elt F) arg7.view (Rect.unit (s := S1x7168) ![0, 4096] ![1, 512] inb_S1x7168_S1x512_0_4096).toLoadRect f5 = part 8 g from gp 8 _ _ rfl)]; rfl
      · intro x; refine Eq.trans ?_ (codes_emb 7 ![0, 3584] inb_S512x7168_S512x512_0_3584 rfl _ _ x).symm; dsimp only; rw [hr_4, hr_18, s7, (show View.readAt (Elt F) arg7.view (Rect.unit (s := S1x7168) ![0, 3584] ![1, 512] inb_S1x7168_S1x512_0_3584).toLoadRect f5 = part 7 g from gp 7 _ _ rfl)]; rfl
      · intro x; refine Eq.trans ?_ (codes_emb 6 ![0, 3072] inb_S512x7168_S512x512_0_3072 rfl _ _ x).symm; dsimp only; rw [hr_4, hr_18, s6, (show View.readAt (Elt F) arg7.view (Rect.unit (s := S1x7168) ![0, 3072] ![1, 512] inb_S1x7168_S1x512_0_3072).toLoadRect f5 = part 6 g from gp 6 _ _ rfl)]; rfl
      · intro x; refine Eq.trans ?_ (codes_emb 5 ![0, 2560] inb_S512x7168_S512x512_0_2560 rfl _ _ x).symm; dsimp only; rw [hr_4, hr_18, s5, (show View.readAt (Elt F) arg7.view (Rect.unit (s := S1x7168) ![0, 2560] ![1, 512] inb_S1x7168_S1x512_0_2560).toLoadRect f5 = part 5 g from gp 5 _ _ rfl)]; rfl
      · intro x; refine Eq.trans ?_ (codes_emb 4 ![0, 2048] inb_S512x7168_S512x512_0_2048 rfl _ _ x).symm; dsimp only; rw [hr_4, hr_18, s4, (show View.readAt (Elt F) arg7.view (Rect.unit (s := S1x7168) ![0, 2048] ![1, 512] inb_S1x7168_S1x512_0_2048).toLoadRect f5 = part 4 g from gp 4 _ _ rfl)]; rfl
      · intro x; refine Eq.trans ?_ (codes_emb 3 ![0, 1536] inb_S512x7168_S512x512_0_1536 rfl _ _ x).symm; dsimp only; rw [hr_21]; rfl
      · intro x; refine Eq.trans ?_ (codes_emb 2 ![0, 1024] inb_S512x7168_S512x512_0_1024 rfl _ _ x).symm; dsimp only; rw [hr_4, hr_18, s2, (show View.readAt (Elt F) arg7.view (Rect.unit (s := S1x7168) ![0, 1024] ![1, 512] inb_S1x7168_S1x512_0_1024).toLoadRect f5 = part 2 g from gp 2 _ _ rfl)]; rfl
      · intro x; refine Eq.trans ?_ (codes_emb 1 ![0, 512] inb_S512x7168_S512x512_0_512 rfl _ _ x).symm; dsimp only; rw [hr_18, hr_19, hr_20]; rfl
      · intro x; refine Eq.trans ?_ (codes_emb 0 ![0, 0] inb_S512x7168_S512x512_0_0 rfl _ _ x).symm; dsimp only; rw [hr_4, hr_15, hr_16, s0, (show View.readAt (Elt F) arg7.view (Rect.unit (s := S1x7168) ![0, 0] ![1, 512] inb_S1x7168_S1x512_0_0).toLoadRect f5 = part 0 g from gp 0 _ _ rfl)]; rfl
    isplitl [H8]
    · iexists _; isplitr; swap; · iexact H8
      ipureintro
      unfold nextScale; rw [if_pos h1, hB, hg]
      exact (read_store _ _ _ _ _ (by decide)).trans (congrArg k0_pay4 hr_17)
    iexists _; isplitr; swap; · iexact H9
    ipureintro
    exact read_put _ _ i _ _
  · sl_exec
    sl_step
    iapply Hk
    simp only [nextCodes, nextScale, if_neg h1]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact read_store _ _ _ _ _ (by decide)
    isplitl [H7]
    · iexists _; isplitr; swap; · iexact H7
      ipureintro
      rfl
    isplitl [H8]
    · iexists _; isplitr; swap; · iexact H8
      ipureintro
      rfl
    iexists _; isplitr; swap; · iexact H9
    ipureintro
    exact read_put _ _ i _ _

end Cert.Oproj.Result

end
-- ==== Proof.OprojBitsRun.lean ====
module

public import proofs.«01_k».proof.Proof.OprojBitsStep
public import proofs.«01_k».proof.Proof.Gen.Oproj.Frame
public import proofs.«01_k».proof.Proof.Gen.Oproj.Points
public import proofs.«01_k».proof.Proof.Gen.Oproj.Launch

/-! The run of the output projection's kernel over its grid. The tiles of one block of rows are kept until the block's
last point, which normalises, quantises and stores them; here is what they are before every point, and the run. -/

@[expose] public section
set_option maxRecDepth 16384

noncomputable section

namespace Cert.Oproj.Result

open Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, read off the grid -/

theorem cond1_iff : ∀ t : Fin cfg0.N, k0_cond1 (grid0.coords t) = 1#1 ↔ t.val % 14 = 13 := by decide +kernel
theorem coord1 : ∀ t : Fin cfg0.N, (grid0.coords t 1).val = t.val % 14 := by decide +kernel
theorem idle6 : ∀ t : Fin cfg0.N, cfg0.idle 6 (cfg0.grid.coords t) = false := by decide +kernel
theorem idle7 : ∀ t : Fin cfg0.N, cfg0.idle 7 (cfg0.grid.coords t) = decide (t.val % 14 ≠ 13) := by decide +kernel
theorem idle8 : ∀ t : Fin cfg0.N, cfg0.idle 8 (cfg0.grid.coords t) = decide (t.val % 14 ≠ 13) := by decide +kernel
theorem flush7 : ∀ t : Fin cfg0.N, (cfg0.win 7).flush t = decide (t.val % 14 = 13) := by decide +kernel
theorem flush8 : ∀ t : Fin cfg0.N, (cfg0.win 8).flush t = decide (t.val % 14 = 13) := by decide +kernel

/-- The point numbered `n`. -/
def pt (n : ℕ) : Fin cfg0.N := ⟨n % 112, by have := Nat.mod_lt n (show 112 > 0 by decide); exact lt_of_lt_of_eq this N_0.symm⟩

theorem pt_val (t : Fin cfg0.N) : pt t.val = t :=
  Fin.ext (Nat.mod_eq_of_lt (lt_of_lt_of_eq t.isLt N_0))

/-! ## What the kept tiles are -/

/-- The tile of the rows to be normalised computed at point `n`. -/
def tile (c : Dev nD) (n : ℕ) : Vec F S1x512x512 .f32 :=
  tileRow (iblk m c 0 (pt n)) (iblk m c 1 (pt n)) (iblk m c 2 (pt n)) (iblk m c 3 (pt n)) (iblk m c 4 (pt n))

/-- The tiles of a whole block of rows. -/
def rowsAt (c : Dev nD) (i : ℕ) : Vec F S14x512x512 .f32 := fun y => tile m c (14 * i + (y 0).val) (ix3 0 (y 1) (y 2))

/-- The codes of the block of rows of point `n`. -/
def codesAt (c : Dev nD) (n : ℕ) : Vec F S512x7168 .fp8e4m3 := codes (rowsAt m c (n / 14)) (iblk m c 5 (pt n))

/-- The scales of the block of rows of point `n`. -/
def scaleAt (c : Dev nD) (n : ℕ) : Vec F S512x128 .f32 := k0_pay4 (scales (rowsAt m c (n / 14)) (iblk m c 5 (pt n)))

/-- What the kept tiles are before point `n`: those of its block's earlier points. -/
def Kept (c : Dev nD) (n : ℕ) (A : Vec F S14x512x512 .f32) : Prop :=
  ∀ p : ℕ, p < n → p / 14 = n / 14 → ∀ (y : Fin 512) (z : Fin 512),
    A (ix3 (⟨p % 14, Nat.mod_lt _ (by decide)⟩ : Fin 14) y z) = tile m c p (ix3 0 y z)

section Step

variable {m} {c : Dev nD} {t : Fin cfg0.N} {A : Vec F S14x512x512 .f32}

/-- After a point, its own tile is kept too. -/
theorem Kept.put (h : Kept m c t.val A) (p : ℕ) (hp : p < t.val + 1) (hr : p / 14 = t.val / 14) (y : Fin 512) (z : Fin 512) :
    nextRows (grid0.coords t) (iblk m c 0 t) (iblk m c 1 t) (iblk m c 2 t) (iblk m c 3 t) (iblk m c 4 t) A (ix3 (⟨p % 14, Nat.mod_lt _ (by decide)⟩ : Fin 14) y z) = tile m c p (ix3 0 y z) := by
  unfold nextRows
  by_cases hpt : p = t.val
  · subst hpt
    refine (if_pos (coord1 t).symm).trans ?_
    unfold tile
    rw [pt_val]
    rfl
  · refine (if_neg (fun hc => ?_)).trans (h p (by omega) hr y z)
    have : p % 14 = t.val % 14 := hc.trans (coord1 t)
    omega

theorem Kept.step (h : Kept m c t.val A) : Kept m c (t.val + 1) (nextRows (grid0.coords t) (iblk m c 0 t) (iblk m c 1 t) (iblk m c 2 t) (iblk m c 3 t) (iblk m c 4 t) A) :=
  fun p hp hr y z => h.put p hp (by omega) y z

/-- After the last point of a block of rows, all its tiles are kept. -/
theorem Kept.full (h : Kept m c t.val A) (h1 : t.val % 14 = 13) : nextRows (grid0.coords t) (iblk m c 0 t) (iblk m c 1 t) (iblk m c 2 t) (iblk m c 3 t) (iblk m c 4 t) A = rowsAt m c (t.val / 14) := by
  funext y
  have hy : (y 0).val < 14 := (y 0).isLt
  have e := h.put (14 * (t.val / 14) + (y 0).val) (by omega) (by omega) (y 1) (y 2)
  refine (congrArg (nextRows (grid0.coords t) (iblk m c 0 t) (iblk m c 1 t) (iblk m c 2 t) (iblk m c 3 t) (iblk m c 4 t) A) ?_).trans e
  funext a
  fin_cases a
  · exact Fin.ext (by show (y 0).val = (14 * (t.val / 14) + (y 0).val) % 14; omega)
  · rfl
  · rfl

theorem Kept.codes (h : Kept m c t.val A) (h1 : t.val % 14 = 13) (y7) :
    nextCodes (grid0.coords t) (iblk m c 0 t) (iblk m c 1 t) (iblk m c 2 t) (iblk m c 3 t) (iblk m c 4 t) (iblk m c 5 t) y7 A = codesAt m c t.val := by
  unfold nextCodes codesAt
  rw [if_pos ((cond1_iff t).2 h1), h.full h1, pt_val]

theorem Kept.scale (h : Kept m c t.val A) (h1 : t.val % 14 = 13) (y8) :
    nextScale (grid0.coords t) (iblk m c 0 t) (iblk m c 1 t) (iblk m c 2 t) (iblk m c 3 t) (iblk m c 4 t) (iblk m c 5 t) y8 A = scaleAt m c t.val := by
  unfold nextScale scaleAt
  rw [if_pos ((cond1_iff t).2 h1), h.full h1, pt_val]

end Step

/-! ## The proof data -/

/-- The kept tiles, at what they are before point `n`. -/
def keptAt (c : Dev nD) (n : ℕ) : sProp 𝕄 :=
  iprop((∃ A : Vec F S14x512x512 .f32, ⌜Kept m c n A⌝ ∗ owns (c : Thread nD τ) (Memref.whole cc0_scratch0) fullShare A) ∗ ∃ r, prngReg c r)

/-- The proof data: inputs stay at their blocks, the projection's tile is the point's, the codes and the scales are those
of the point's block of rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileAttn (iblk m c 0 t) (iblk m c 1 t) (iblk m c 2 t) (iblk m c 3 t)
    | ⟨7, _⟩ => codesAt m c t.val
    | ⟨8, _⟩ => scaleAt m c t.val
  Φ t := keptAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = tileAttn (iblk m c 0 t) (iblk m c 1 t) (iblk m c 2 t) (iblk m c 3 t) := by dsimp only [dats]
theorem after0_7 (c : Dev nD) (t : Fin cfg0.N) : (dats m 0 c).after 7 t = codesAt m c t.val := by dsimp only [dats]
theorem after0_8 (c : Dev nD) (t : Fin cfg0.N) : (dats m 0 c).after 8 t = scaleAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

theorem codes_left (c : Dev nD) (t : Fin cfg0.N) (A d) (h : Kept m c t.val A) :
    (owns (c : Thread nD τ) (st0_7 t) fullShare (nextCodes (grid0.coords t) (iblk m c 0 t) (iblk m c 1 t) (iblk m c 2 t) (iblk m c 3 t) (iblk m c 4 t) (iblk m c 5 t) ((dats m 0 c).before 7 t d) A) : sProp 𝕄) ⊢ (dats m 0 c).leavesExact 7 t := by
  by_cases h1 : t.val % 14 = 13
  · rw [h.codes h1]
    unfold Dat.leavesExact
    rw [show cfg0.idle 7 (cfg0.grid.coords t) = false from (idle7 t).trans (decide_eq_false (by omega)), after0_7]
  · rw [(dats m 0 c).leavesExact_idle 7 t ((idle7 t).trans (decide_eq_true h1)) ((flush7 t).trans (decide_eq_false h1))]
    unfold nextCodes
    rw [if_neg (fun hc => h1 ((cond1_iff t).1 hc))]
    iintro H; iexists d; iexact H

theorem scale_left (c : Dev nD) (t : Fin cfg0.N) (A d) (h : Kept m c t.val A) :
    (owns (c : Thread nD τ) (st0_8 t) fullShare (nextScale (grid0.coords t) (iblk m c 0 t) (iblk m c 1 t) (iblk m c 2 t) (iblk m c 3 t) (iblk m c 4 t) (iblk m c 5 t) ((dats m 0 c).before 8 t d) A) : sProp 𝕄) ⊢ (dats m 0 c).leavesExact 8 t := by
  by_cases h1 : t.val % 14 = 13
  · rw [h.scale h1]
    unfold Dat.leavesExact
    rw [show cfg0.idle 8 (cfg0.grid.coords t) = false from (idle8 t).trans (decide_eq_false (by omega)), after0_8]
  · rw [(dats m 0 c).leavesExact_idle 8 t ((idle8 t).trans (decide_eq_true h1)) ((flush8 t).trans (decide_eq_false h1))]
    unfold nextScale
    rw [if_neg (fun hc => h1 ((cond1_iff t).1 hc))]
    iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = keptAt m c (t.val + 1) from rfl, show (dats m 0 c).Φ t.castSucc = keptAt m c t.val from rfl,
    show (dats m 0 c).owesAt () t.succ = (dats m 0 c).owesAt () t.castSucc from rfl,
    after0_0, after0_1, after0_2, after0_3, after0_4, after0_5, after0_6]
  unfold keptAt
  iintro ⟨⟨⟨%A, %hK, HA⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) ((dats m 0 c).before 8 t d8) A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  iintro ⟨H0, H1, H2, H3, H4, H5, H6, H7, H8, HA⟩
  isplitl [HA Hr]
  · isplitl [HA]
    · iexists _
      isplitr
      · ipureintro; exact hK.step
      iexact HA
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (codes_left m c t A d7 hK); iexact H7
  · iapply (scale_left m c t A d8 hK); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem kept_in (c : Dev nD) : Pipeline.ΦA spec0 c ⊢ (dats m 0 c).Φ 0 := by
  unfold Pipeline.ΦA
  rw [scopedRest0_eq, show (dats m 0 c).Φ 0 = keptAt m c 0 from rfl]
  unfold keptAt
  iintro ⟨⟨%A, HA⟩, Hr⟩
  isplitl [HA]
  · iexists A
    isplitr
    · ipureintro; exact fun p hp => absurd hp (Nat.not_lt_zero _)
    rw [owns_whole]
    iexact HA
  · iexact Hr

theorem kept_out (c : Dev nD) : (dats m 0 c).Φ (Fin.last cfg0.N) ⊢ Pipeline.ΦA spec0 c := by
  unfold Pipeline.ΦA
  rw [scopedRest0_eq, show (dats m 0 c).Φ (Fin.last cfg0.N) = keptAt m c cfg0.N from rfl]
  unfold keptAt
  simp only [owns_whole]
  iintro ⟨⟨%A, -, HA⟩, Hr⟩
  isplitl [HA]
  · iexists A; iexact HA
  · iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := kept_in m) (hout := kept_out m)

/-- Every execution ends, with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim: every execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Oproj.Result

end
-- ==== Proof.OprojStep.lean ====
module

public import proofs.«01_k».proof.Proof.Gen.OprojIdeal.Frame
public import proofs.«01_k».proof.Proof.Gen.OprojIdeal.Skeleton
public import Idealize.ShloMosaic.Lib.Pipeline.ValueKit
public import Idealize.ShloMosaic.Lib.Pipeline.ReadBack

/-! What one grid point of the output projection's kernel does to its buffers, whatever the floats are. -/

@[expose] public section
set_option maxRecDepth 16384

noncomputable section

namespace Cert.OprojIdeal.Result

open Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The boxes the body reads and writes -/

abbrev rCtx : Rect S512x7680 := Rect.unit (s := S512x7680) ![0, 0] S512x7680.size inb_S512x7680_S512x7680_0_0
abbrev rCol : Rect S512x128 := Rect.unit (s := S512x128) ![0, 0] S512x1.size inb_S512x128_S512x1_0_0
abbrev rWeight : Rect S7680x512 := Rect.unit (s := S7680x512) ![0, 0] S7680x512.size inb_S7680x512_S7680x512_0_0
abbrev rScale : Rect S1x512 := Rect.unit (s := S1x512) ![0, 0] S1x512.size inb_S1x512_S1x512_0_0
abbrev rTile : Rect S512x512 := Rect.unit (s := S512x512) ![0, 0] S512x512.size inb_S512x512_S512x512_0_0

/-! ## What the body leaves -/

/-- The point's tile of the projection, from the point's blocks. -/
def tileAttn (x0 : Vec F S512x7680 .fp8e4m3) (x1 : Vec F S512x128 .f32) (x2 : Vec F S7680x512 .fp8e4m3) (x3 : Vec F S1x512 .f32) : Vec F S512x512 .f32 :=
  k0_pay1 (View.ld x0 rCtx) (View.ld x2 rWeight) (View.ld x1 rCol) (View.ld x3 rScale)

/-- The point's tile of the rows to be normalised: the input's tile plus the projection's. -/
def tileRow (x0 : Vec F S512x7680 .fp8e4m3) (x1 : Vec F S512x128 .f32) (x2 : Vec F S7680x512 .fp8e4m3) (x3 : Vec F S1x512 .f32) (x4 : Vec F S512x512 .bf16) : Vec F S1x512x512 .f32 :=
  k0_pay2 (View.ld x0 rCtx) (View.ld x2 rWeight) (View.ld x1 rCol) (View.ld x3 rScale) (View.ld x4 rTile)

/-- The tiles held after the point. -/
def nextRows (i : grid0.Coords) (x0 : Vec F S512x7680 .fp8e4m3) (x1 : Vec F S512x128 .f32) (x2 : Vec F S7680x512 .fp8e4m3) (x3 : Vec F S1x512 .f32) (x4 : Vec F S512x512 .bf16) (A : Vec F S14x512x512 .f32) : Vec F S14x512x512 .f32 :=
  fun y => if (y 0).val = (i 1).val then tileRow x0 x1 x2 x3 x4 (ix3 0 (y 1) (y 2)) else A y

/-- One tile of the tiles held. -/
def slice (n : Fin 14) (A : Vec F S14x512x512 .f32) : Vec F S1x512x512 .f32 := fun y => A (ix3 n (y 1) (y 2))

/-- The gains of one tile's columns. -/
def part (n : Fin 14) (g : Vec F S1x7168 .f32) : Vec F S1x512 .f32 :=
  fun y => g (ix2 0 ⟨512 * n.val + (y 1).val, by have h1 : (y 1).val < 512 := (y 1).isLt; have h2 := n.isLt; show _ < 7168; omega⟩)

/-- The sums of squares over the first eleven tiles. -/
def sumA (A : Vec F S14x512x512 .f32) : FVec F S512x1 .f32 :=
  k0_pay7 (k0_pay5 (slice 0 A) (slice 1 A) (slice 2 A) (slice 3 A) (slice 4 A)) (k0_pay6 (slice 5 A)) (slice 6 A) (slice 7 A) (slice 8 A) (slice 9 A) (slice 10 A)

/-- The reciprocal roots of the rows. -/
def root (A : Vec F S14x512x512 .f32) : FVec F S512x1 .f32 := k0_pay9 (sumA A) (k0_pay8 (slice 11 A)) (slice 12 A) (slice 13 A)

/-- The running row maximum over the first tile. -/
def maxA (A : Vec F S14x512x512 .f32) (g : Vec F S1x7168 .f32) : FVec F S512x1 .f32 :=
  k0_pay10 (sumA A) (k0_pay8 (slice 11 A)) (slice 12 A) (slice 13 A) (slice 0 A) (part 0 g)

/-- The running row maximum over the first four tiles. -/
def maxB (A : Vec F S14x512x512 .f32) (g : Vec F S1x7168 .f32) : FVec F S512x1 .f32 :=
  k0_pay13 (root A) (maxA A g) (k0_pay11 (sumA A) (k0_pay8 (slice 11 A)) (slice 12 A) (slice 13 A) (slice 1 A)) (k0_pay12 (part 1 g)) (slice 2 A) (part 2 g) (slice 3 A) (part 3 g)

/-- The running row maximum over the first eight tiles. -/
def maxC (A : Vec F S14x512x512 .f32) (g : Vec F S1x7168 .f32) : FVec F S512x1 .f32 :=
  k0_pay15 (root A) (maxB A g) (k0_pay14 (root A) (slice 4 A) (part 4 g)) (slice 5 A) (part 5 g) (slice 6 A) (part 6 g) (slice 7 A) (part 7 g)

/-- The running row maximum over the first eleven tiles. -/
def maxD (A : Vec F S14x512x512 .f32) (g : Vec F S1x7168 .f32) : FVec F S512x1 .f32 :=
  k0_pay17 (root A) (maxC A g) (k0_pay16 (slice 8 A)) (part 8 g) (slice 9 A) (part 9 g) (slice 10 A) (part 10 g)

/-- The row maximum over all tiles, divided by the largest code. -/
def ratio (A : Vec F S14x512x512 .f32) (g : Vec F S1x7168 .f32) : FVec F S512x1 .f32 :=
  k0_pay20 (root A) (maxD A g) (k0_pay18 (root A) (slice 11 A)) (k0_pay19 (part 11 g)) (slice 12 A) (part 12 g) (slice 13 A) (part 13 g)

/-- The number of powers of two not above the ratio. -/
def counts (A : Vec F S14x512x512 .f32) (g : Vec F S1x7168 .f32) : IVec S512 32 :=
  k0_pay21 (root A) (maxD A g) (k0_pay18 (root A) (slice 11 A)) (k0_pay19 (part 11 g)) (slice 12 A) (part 12 g) (slice 13 A) (part 13 g)

/-- The scales. -/
def scales (A : Vec F S14x512x512 .f32) (g : Vec F S1x7168 .f32) : FVec F S512x1 .f32 := k0_pay23 (ratio A g) (counts A g)

/-- The reciprocal scales. -/
def invs (A : Vec F S14x512x512 .f32) (g : Vec F S1x7168 .f32) : FVec F S512x1 .f32 := k0_pay24 (ratio A g) (counts A g)

/-- One tile of codes. -/
def codeTile (n : Fin 14) (A : Vec F S14x512x512 .f32) (g : Vec F S1x7168 .f32) : Vec F S512x512 .fp8e4m3 :=
  k0_pay3 (root A) (invs A g) (slice n A) (part n g)

/-- The codes of a block of rows. -/
def codes (A : Vec F S14x512x512 .f32) (g : Vec F S1x7168 .f32) : Vec F S512x7168 .fp8e4m3 :=
  fun y => codeTile ⟨(y 1).val / 512, by have h : (y 1).val < 7168 := (y 1).isLt; omega⟩ A g (ix2 (y 0) ⟨(y 1).val % 512, Nat.mod_lt _ (by decide)⟩)

/-- The block of codes after the point. -/
def nextCodes (i : grid0.Coords) (x0 : Vec F S512x7680 .fp8e4m3) (x1 : Vec F S512x128 .f32) (x2 : Vec F S7680x512 .fp8e4m3) (x3 : Vec F S1x512 .f32) (x4 : Vec F S512x512 .bf16) (x5 : Vec F S1x7168 .f32) (y7 : Vec F S512x7168 .fp8e4m3) (A : Vec F S14x512x512 .f32) : Vec F S512x7168 .fp8e4m3 :=
  if k0_cond1 i = 1#1 then codes (nextRows i x0 x1 x2 x3 x4 A) x5 else y7

/-- The block of scales after the point. -/
def nextScale (i : grid0.Coords) (x0 : Vec F S512x7680 .fp8e4m3) (x1 : Vec F S512x128 .f32) (x2 : Vec F S7680x512 .fp8e4m3) (x3 : Vec F S1x512 .f32) (x4 : Vec F S512x512 .bf16) (x5 : Vec F S1x7168 .f32) (y8 : Vec F S512x128 .f32) (A : Vec F S14x512x512 .f32) : Vec F S512x128 .f32 :=
  if k0_cond1 i = 1#1 then k0_pay4 (scales (nextRows i x0 x1 x2 x3 x4 A) x5) else y8

theorem off1 : ∀ (i : grid0.Coords) (a : Fin 3), k0_off1 i a = ![(i 1).val, 0, 0] a := by decide +kernel

/-- A buffer stored whole holds what was stored. -/
theorem read_store {sig : RefSig} {κ : Kind} {sp : Space} {S : Shape} {e : EltTy} {Val : EltTy → Type} [∀ e, Nonempty (Val e)] (v : View sig κ sp S e) (f : v.ty.Contents Val)
    {off : Fin S.rank → Nat} (inb : ∀ a, off a + S.size a ≤ S.size a) (w : S.Idx → Val e) (L : List (View.Piece Val S e)) (h : ∀ a, off a = 0) :
    v.read Val (v.writes Val f ((⟨Rect.unit off S.size inb, w⟩ : View.Piece Val S e) :: L)) = w :=
  (View.read_writes_eq_canon v f _ (fun y => ⟨_, List.mem_cons_self, by
    obtain rfl : off = fun _ => 0 := funext h
    show y ∈ (Rect.whole S).set; rw [Rect.set_whole]; exact Finset.mem_univ y⟩)).trans (View.canon_cons_unit_lit inb w L h)

/-- The tiles after one more was stored. -/
theorem read_put {sig : RefSig} {κ : Kind} {sp : Space} (v : View sig κ sp S14x512x512 .f32) (f : v.ty.Contents (Elt F)) (i : grid0.Coords) (inb) (p : Vec F S1x512x512 .f32) :
    v.read (Elt F) (v.writes (Elt F) f [⟨Rect.unit (s := S14x512x512) (k0_off1 i) S1x512x512.size inb, p⟩])
      = fun y => if (y 0).val = (i 1).val then p (ix3 0 (y 1) (y 2)) else v.read (Elt F) f y := by
  funext y
  by_cases hy : (y 0).val = (i 1).val
  · rw [if_pos hy]
    refine View.read_writes_cons_hit_of_coords v f (Rect.unit (s := S14x512x512) (k0_off1 i) S1x512x512.size inb) p [] (ix3 0 (y 1) (y 2)) _ fun a => ?_
    show (y a).val = k0_off1 i a + 1 * _
    rw [off1]
    fin_cases a
    · show (y 0).val = (i 1).val + 1 * 0; omega
    · show (y 1).val = 0 + 1 * (y 1).val; omega
    · show (y 2).val = 0 + 1 * (y 2).val; omega
  · rw [if_neg hy]
    refine View.read_writes_cons_miss_of_axis _ _ _ _ _ 0 (i 1).val 1 (off1 i 0) rfl rfl ?_
    omega

/-- One tile of the tiles held, loaded. -/
theorem ld_slice (n : Fin 14) (off) (inb) (h : off = ![n.val, 0, 0]) (A : Vec F S14x512x512 .f32) :
    View.ld A (Rect.unit (s := S14x512x512) off S1x512x512.size inb) = slice n A := by
  subst h
  funext y
  refine View.ld_unit_apply_of _ _ _ _ _ _ fun a => ?_
  fin_cases a
  · have : (y 0).val = 0 := by have := (y 0).isLt; change _ < 1 at this; omega
    show n.val = n.val + (y 0).val
    omega
  · show (y 1).val = 0 + (y 1).val; omega
  · show (y 2).val = 0 + (y 2).val; omega

/-- The gains of one tile's columns, loaded. -/
theorem ld_part (n : Fin 14) (off) (inb) (h : off = ![0, 512 * n.val]) (g : Vec F S1x7168 .f32) :
    View.ld g (Rect.unit (s := S1x7168) off S1x512.size inb) = part n g := by
  subst h
  funext y
  refine View.ld_unit_apply_of _ _ _ _ _ _ fun a => ?_
  fin_cases a
  · have : (y 0).val = 0 := by have := (y 0).isLt; change _ < 1 at this; omega
    show 0 = 0 + (y 0).val
    omega
  · show 512 * n.val + (y 1).val = 512 * n.val + (y 1).val; rfl

/-- One tile loaded after the point's own was stored. -/
theorem load_slice (n : Fin 14) {sig : RefSig} {κ : Kind} {sp : Space} (v : View sig κ sp S14x512x512 .f32) (f : v.ty.Contents (Elt F)) (i : grid0.Coords) (inb) (p : Vec F S1x512x512 .f32) (off) (inb') (h : off = ![n.val, 0, 0]) :
    View.readAt (Elt F) v (Rect.unit (s := S14x512x512) off S1x512x512.size inb').toLoadRect (v.writes (Elt F) f [⟨Rect.unit (s := S14x512x512) (k0_off1 i) S1x512x512.size inb, p⟩])
      = slice n (fun y => if (y 0).val = (i 1).val then p (ix3 0 (y 1) (y 2)) else v.read (Elt F) f y) :=
  (ld_slice n off inb' h (v.read (Elt F) (v.writes (Elt F) f [⟨Rect.unit (s := S14x512x512) (k0_off1 i) S1x512x512.size inb, p⟩]))).trans (congrArg (slice n) (read_put v f i inb p))

/-- The gains of one tile's columns, read. -/
theorem load_part (n : Fin 14) {sig : RefSig} {κ : Kind} {sp : Space} (v : View sig κ sp S1x7168 .f32) (f : v.ty.Contents (Elt F)) (off) (inb') (h : off = ![0, 512 * n.val]) :
    View.readAt (Elt F) v (Rect.unit (s := S1x7168) off S1x512.size inb').toLoadRect f = part n (v.read (Elt F) f) :=
  ld_part n off inb' h (v.read (Elt F) f)

/-- The codes at a tile's own index. -/
theorem codes_emb (n : Fin 14) (off) (inb) (h : off = ![0, 512 * n.val]) (A : Vec F S14x512x512 .f32) (g : Vec F S1x7168 .f32) (x : S512x512.Idx) :
    codes A g ((Rect.unit (s := S512x7168) off S512x512.size inb).emb x) = codeTile n A g x := by
  subst h
  have h1 : (x 1).val < 512 := (x 1).isLt
  have e0 : ((Rect.unit (s := S512x7168) ![0, 512 * n.val] S512x512.size inb).emb x 0).val = 0 + 1 * (x 0).val := rfl
  have e1 : ((Rect.unit (s := S512x7168) ![0, 512 * n.val] S512x512.size inb).emb x 1).val = 512 * n.val + 1 * (x 1).val := rfl
  unfold codes
  refine congr (congrArg (fun k => codeTile k A g) (Fin.ext ?_)) (funext fun a => ?_)
  · show _ / 512 = n.val; rw [e1]; omega
  · fin_cases a
    · exact Fin.ext (e0.trans (by show 0 + 1 * (x 0).val = (x 0).val; omega))
    · exact Fin.ext (by show _ % 512 = (x 1).val; rw [e1]; omega)

set_option maxHeartbeats 4000000 in
/-- One point of the kernel, on whole buffers at any contents. -/
theorem sound_kernel (c : Dev nD) (E : Set ℕ) (i : grid0.Coords) (arg2 : Memref sig .tc .vmem S512x7680 .fp8e4m3) (harg2 : arg2.IsWhole) (arg3 : Memref sig .tc .vmem S512x128 .f32) (harg3 : arg3.IsWhole) (arg4 : Memref sig .tc .vmem S7680x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x7168 .f32) (harg7 : arg7.IsWhole) (arg8 : Memref sig .tc .vmem S512x512 .f32) (harg8 : arg8.IsWhole) (arg9 : Memref sig .tc .vmem S512x7168 .fp8e4m3) (harg9 : arg9.IsWhole) (arg10 : Memref sig .tc .vmem S512x128 .f32) (harg10 : arg10.IsWhole) (arg11 : Memref sig .tc .vmem S14x512x512 .f32) (harg11 : arg11.IsWhole)
    (x0 : Vec F S512x7680 .fp8e4m3) (x1 : Vec F S512x128 .f32) (x2 : Vec F S7680x512 .fp8e4m3) (x3 : Vec F S1x512 .f32) (x4 : Vec F S512x512 .bf16) (x5 : Vec F S1x7168 .f32)
    (y6 : Vec F S512x512 .f32) (y7 : Vec F S512x7168 .fp8e4m3) (y8 : Vec F S512x128 .f32) (A : Vec F S14x512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tileAttn x0 x1 x2 x3) ∗ owns (c : Thread nD τ) arg9 fullShare (nextCodes i x0 x1 x2 x3 x4 x5 y7 A) ∗ owns (c : Thread nD τ) arg10 fullShare (nextScale i x0 x1 x2 x3 x4 x5 y8 A) ∗ owns (c : Thread nD τ) arg11 fullShare (nextRows i x0 x1 x2 x3 x4 A)) -∗ K ⟨⟩))
      ⊢ wp frame (wpE (defs₀ (F := F)) Variants.none c none) E (cc0_oproj i arg2 harg2 arg3 harg3 arg4 harg4 arg5 harg5 arg6 harg6 arg7 harg7 arg8 harg8 arg9 harg9 arg10 harg10 arg11 harg11) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  by_cases h1 : k0_cond1 i = 1#1
  · sl_exec
    sl_step
    iapply Hk
    obtain ⟨B, hB⟩ : ∃ B, nextRows i (View.read (Elt F) arg2.view f0) (View.read (Elt F) arg3.view f1) (View.read (Elt F) arg4.view f2) (View.read (Elt F) arg5.view f3) (View.read (Elt F) arg6.view f4) (View.read (Elt F) arg11.view f9) = B := ⟨_, rfl⟩
    obtain ⟨g, hg⟩ : ∃ g, View.read (Elt F) arg7.view f5 = g := ⟨_, rfl⟩
    have gp : ∀ (n : Fin 14) (off) (inb') (h : off = ![0, 512 * n.val]), View.readAt (Elt F) arg7.view (Rect.unit (s := S1x7168) off S1x512.size inb').toLoadRect f5 = part n g := fun n off inb' h => (load_part n _ _ off inb' h).trans (congrArg (part n) hg)
    have s0 : sound_kernel.sl.v22 c i arg2 arg3 arg4 arg5 arg6 arg11 f0 f1 f2 f3 f4 f9 = slice 0 B := (load_slice 0 _ _ _ _ _ _ _ rfl).trans (congrArg (slice 0) hB)
    have s1 : sound_kernel.sl.v28 c i arg2 arg3 arg4 arg5 arg6 arg11 f0 f1 f2 f3 f4 f9 = slice 1 B := (load_slice 1 _ _ _ _ _ _ _ rfl).trans (congrArg (slice 1) hB)
    have s2 : sound_kernel.sl.v34 c i arg2 arg3 arg4 arg5 arg6 arg11 f0 f1 f2 f3 f4 f9 = slice 2 B := (load_slice 2 _ _ _ _ _ _ _ rfl).trans (congrArg (slice 2) hB)
    have s3 : sound_kernel.sl.v40 c i arg2 arg3 arg4 arg5 arg6 arg11 f0 f1 f2 f3 f4 f9 = slice 3 B := (load_slice 3 _ _ _ _ _ _ _ rfl).trans (congrArg (slice 3) hB)
    have s4 : sound_kernel.sl.v46 c i arg2 arg3 arg4 arg5 arg6 arg11 f0 f1 f2 f3 f4 f9 = slice 4 B := (load_slice 4 _ _ _ _ _ _ _ rfl).trans (congrArg (slice 4) hB)
    have s5 : sound_kernel.sl.v52 c i arg2 arg3 arg4 arg5 arg6 arg11 f0 f1 f2 f3 f4 f9 = slice 5 B := (load_slice 5 _ _ _ _ _ _ _ rfl).trans (congrArg (slice 5) hB)
    have s6 : sound_kernel.sl.v58 c i arg2 arg3 arg4 arg5 arg6 arg11 f0 f1 f2 f3 f4 f9 = slice 6 B := (load_slice 6 _ _ _ _ _ _ _ rfl).trans (congrArg (slice 6) hB)
    have s7 : sound_kernel.sl.v64 c i arg2 arg3 arg4 arg5 arg6 arg11 f0 f1 f2 f3 f4 f9 = slice 7 B := (load_slice 7 _ _ _ _ _ _ _ rfl).trans (congrArg (slice 7) hB)
    have s8 : sound_kernel.sl.v70 c i arg2 arg3 arg4 arg5 arg6 arg11 f0 f1 f2 f3 f4 f9 = slice 8 B := (load_slice 8 _ _ _ _ _ _ _ rfl).trans (congrArg (slice 8) hB)
    have s9 : sound_kernel.sl.v76 c i arg2 arg3 arg4 arg5 arg6 arg11 f0 f1 f2 f3 f4 f9 = slice 9 B := (load_slice 9 _ _ _ _ _ _ _ rfl).trans (congrArg (slice 9) hB)
    have s10 : sound_kernel.sl.v82 c i arg2 arg3 arg4 arg5 arg6 arg11 f0 f1 f2 f3 f4 f9 = slice 10 B := (load_slice 10 _ _ _ _ _ _ _ rfl).trans (congrArg (slice 10) hB)
    have s11 : sound_kernel.sl.v88 c i arg2 arg3 arg4 arg5 arg6 arg11 f0 f1 f2 f3 f4 f9 = slice 11 B := (load_slice 11 _ _ _ _ _ _ _ rfl).trans (congrArg (slice 11) hB)
    have s12 : sound_kernel.sl.v94 c i arg2 arg3 arg4 arg5 arg6 arg11 f0 f1 f2 f3 f4 f9 = slice 12 B := (load_slice 12 _ _ _ _ _ _ _ rfl).trans (congrArg (slice 12) hB)
    have s13 : sound_kernel.sl.v100 c i arg2 arg3 arg4 arg5 arg6 arg11 f0 f1 f2 f3 f4 f9 = slice 13 B := (load_slice 13 _ _ _ _ _ _ _ rfl).trans (congrArg (slice 13) hB)
    have s13b : sound_kernel.sl.v518 c i arg2 arg3 arg4 arg5 arg6 arg11 f0 f1 f2 f3 f4 f9 = slice 13 B := (load_slice 13 _ _ _ _ _ _ _ rfl).trans (congrArg (slice 13) hB)
    have hr : sound_kernel.sl.r c i arg2 arg3 arg4 arg5 arg6 arg11 f0 f1 f2 f3 f4 f9 = k0_pay5 (slice 0 B) (slice 1 B) (slice 2 B) (slice 3 B) (slice 4 B) := by
      unfold sound_kernel.sl.r
      simp only [s0, s1, s2, s3, s4]
      try rfl
    have hr_1 : sound_kernel.sl.r_1 c i arg2 arg3 arg4 arg5 arg6 arg11 f0 f1 f2 f3 f4 f9 = k0_pay6 (slice 5 B) := by
      unfold sound_kernel.sl.r_1
      simp only [s5]
      try rfl
    have hr_2 : sound_kernel.sl.r_2 c i arg2 arg3 arg4 arg5 arg6 arg11 f0 f1 f2 f3 f4 f9 = sumA B := by
      unfold sound_kernel.sl.r_2
      simp only [hr, hr_1, s6, s7, s8, s9, s10]
      try rfl
    have hr_3 : sound_kernel.sl.r_3 c i arg2 arg3 arg4 arg5 arg6 arg11 f0 f1 f2 f3 f4 f9 = k0_pay8 (slice 11 B) := by
      unfold sound_kernel.sl.r_3
      simp only [s11]
      try rfl
    have hr_4 : sound_kernel.sl.r_4 c i arg2 arg3 arg4 arg5 arg6 arg11 f0 f1 f2 f3 f4 f9 = root B := by
      unfold sound_kernel.sl.r_4
      simp only [hr_2, hr_3, s12, s13]
      try rfl
    have hr_5 : sound_kernel.sl.r_5 c i arg2 arg3 arg4 arg5 arg6 arg7 arg11 f0 f1 f2 f3 f4 f5 f9 = maxA B g := by
      unfold sound_kernel.sl.r_5
      simp only [hr_2, hr_3, s12, s13, s0, gp 0 ![0, 0] inb_S1x7168_S1x512_0_0 rfl]
      try rfl
    have hr_6 : sound_kernel.sl.r_6 c i arg2 arg3 arg4 arg5 arg6 arg11 f0 f1 f2 f3 f4 f9 = k0_pay11 (sumA B) (k0_pay8 (slice 11 B)) (slice 12 B) (slice 13 B) (slice 1 B) := by
      unfold sound_kernel.sl.r_6
      simp only [hr_2, hr_3, s12, s13, s1]
      try rfl
    have hr_7 : sound_kernel.sl.r_7 c arg7 f5 = k0_pay12 (part 1 g) := by
      unfold sound_kernel.sl.r_7
      simp only [gp 1 ![0, 512] inb_S1x7168_S1x512_0_512 rfl]
      try rfl
    have hr_8 : sound_kernel.sl.r_8 c i arg2 arg3 arg4 arg5 arg6 arg7 arg11 f0 f1 f2 f3 f4 f5 f9 = maxB B g := by
      unfold sound_kernel.sl.r_8
      simp only [hr_4, hr_5, hr_6, hr_7, s2, s3, gp 2 ![0, 1024] inb_S1x7168_S1x512_0_1024 rfl, gp 3 ![0, 1536] inb_S1x7168_S1x512_0_1536 rfl]
      try rfl
    have hr_9 : sound_kernel.sl.r_9 c i arg2 arg3 arg4 arg5 arg6 arg7 arg11 f0 f1 f2 f3 f4 f5 f9 = k0_pay14 (root B) (slice 4 B) (part 4 g) := by
      unfold sound_kernel.sl.r_9
      simp only [hr_4, s4, gp 4 ![0, 2048] inb_S1x7168_S1x512_0_2048 rfl]
      try rfl
    have hr_10 : sound_kernel.sl.r_10 c i arg2 arg3 arg4 arg5 arg6 arg7 arg11 f0 f1 f2 f3 f4 f5 f9 = maxC B g := by
      unfold sound_kernel.sl.r_10
      simp only [hr_4, hr_8, hr_9, s5, s6, s7, gp 5 ![0, 2560] inb_S1x7168_S1x512_0_2560 rfl, gp 6 ![0, 3072] inb_S1x7168_S1x512_0_3072 rfl, gp 7 ![0, 3584] inb_S1x7168_S1x512_0_3584 rfl]
      try rfl
    have hr_11 : sound_kernel.sl.r_11 c i arg2 arg3 arg4 arg5 arg6 arg11 f0 f1 f2 f3 f4 f9 = k0_pay16 (slice 8 B) := by
      unfold sound_kernel.sl.r_11
      simp only [s8]
      try rfl
    have hr_12 : sound_kernel.sl.r_12 c i arg2 arg3 arg4 arg5 arg6 arg7 arg11 f0 f1 f2 f3 f4 f5 f9 = maxD B g := by
      unfold sound_kernel.sl.r_12
      simp only [hr_4, hr_10, hr_11, s9, s10, gp 8 ![0, 4096] inb_S1x7168_S1x512_0_4096 rfl, gp 9 ![0, 4608] inb_S1x7168_S1x512_0_4608 rfl, gp 10 ![0, 5120] inb_S1x7168_S1x512_0_5120 rfl]
      try rfl
    have hr_13 : sound_kernel.sl.r_13 c i arg2 arg3 arg4 arg5 arg6 arg11 f0 f1 f2 f3 f4 f9 = k0_pay18 (root B) (slice 11 B) := by
      unfold sound_kernel.sl.r_13
      simp only [hr_4, s11]
      try rfl
    have hr_14 : sound_kernel.sl.r_14 c arg7 f5 = k0_pay19 (part 11 g) := by
      unfold sound_kernel.sl.r_14
      simp only [gp 11 ![0, 5632] inb_S1x7168_S1x512_0_5632 rfl]
      try rfl
    have hr_15 : sound_kernel.sl.r_15 c i arg2 arg3 arg4 arg5 arg6 arg7 arg11 f0 f1 f2 f3 f4 f5 f9 = ratio B g := by
      unfold sound_kernel.sl.r_15
      simp only [hr_4, hr_12, hr_13, hr_14, s12, s13, gp 12 ![0, 6144] inb_S1x7168_S1x512_0_6144 rfl, gp 13 ![0, 6656] inb_S1x7168_S1x512_0_6656 rfl]
      try rfl
    have hr_16 : sound_kernel.sl.r_16 c i arg2 arg3 arg4 arg5 arg6 arg7 arg11 f0 f1 f2 f3 f4 f5 f9 = counts B g := by
      unfold sound_kernel.sl.r_16
      simp only [hr_4, hr_12, hr_13, hr_14, s12, s13, gp 12 ![0, 6144] inb_S1x7168_S1x512_0_6144 rfl, gp 13 ![0, 6656] inb_S1x7168_S1x512_0_6656 rfl]
      try rfl
    have hr_17 : sound_kernel.sl.r_17 c i arg2 arg3 arg4 arg5 arg6 arg7 arg11 f0 f1 f2 f3 f4 f5 f9 = scales B g := by
      unfold sound_kernel.sl.r_17
      simp only [hr_15, hr_16]
      try rfl
    have hr_18 : sound_kernel.sl.r_18 c i arg2 arg3 arg4 arg5 arg6 arg7 arg11 f0 f1 f2 f3 f4 f5 f9 = invs B g := by
      unfold sound_kernel.sl.r_18
      simp only [hr_15, hr_16]
      try rfl
    have hr_19 : sound_kernel.sl.r_19 c i arg2 arg3 arg4 arg5 arg6 arg11 f0 f1 f2 f3 f4 f9 = k0_pay26 (root B) (slice 1 B) := by
      unfold sound_kernel.sl.r_19
      simp only [hr_4, s1]
      try rfl
    have hr_20 : sound_kernel.sl.r_20 c arg7 f5 = (part 1 g) := by
      unfold sound_kernel.sl.r_20
      simp only [gp 1 ![0, 512] inb_S1x7168_S1x512_0_512 rfl]
      try rfl
    have hr_21 : sound_kernel.sl.r_21 c i arg2 arg3 arg4 arg5 arg6 arg7 arg11 f0 f1 f2 f3 f4 f5 f9 = k0_pay29 (root B) (invs B g) (slice 3 B) (part 3 g) := by
      unfold sound_kernel.sl.r_21
      simp only [hr_4, hr_18, s3, gp 3 ![0, 1536] inb_S1x7168_S1x512_0_1536 rfl]
      try rfl
    have hr_22 : sound_kernel.sl.r_22 c i arg2 arg3 arg4 arg5 arg6 arg11 f0 f1 f2 f3 f4 f9 = k0_pay36 (root B) (slice 8 B) := by
      unfold sound_kernel.sl.r_22
      simp only [hr_4, s8]
      try rfl
    have hr_23 : sound_kernel.sl.r_23 c i arg2 arg3 arg4 arg5 arg6 arg7 arg11 f0 f1 f2 f3 f4 f5 f9 = k0_pay39 (root B) (invs B g) (slice 10 B) (part 10 g) := by
      unfold sound_kernel.sl.r_23
      simp only [hr_4, hr_18, s10, gp 10 ![0, 5120] inb_S1x7168_S1x512_0_5120 rfl]
      try rfl
    have hr_24 : sound_kernel.sl.r_24 c i arg2 arg3 arg4 arg5 arg6 arg7 arg11 f0 f1 f2 f3 f4 f5 f9 = k0_pay42 (root B) (invs B g) (slice 12 B) (part 12 g) := by
      unfold sound_kernel.sl.r_24
      simp only [hr_4, hr_18, s12, gp 12 ![0, 6144] inb_S1x7168_S1x512_0_6144 rfl]
      try rfl
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact read_store _ _ _ _ _ (by decide)
    isplitl [H7]
    · iexists _; isplitr; swap; · iexact H7
      ipureintro
      unfold nextCodes; rw [if_pos h1, hB, hg]
      refine funext fun y => View.read_writes_apply_of_pieces _ _ (codes B g) _ (View.PiecesOf.mem (L := [_, _, _, _, _, _, _, _, _, _, _, _, _, _]) ⟨?_, ?_, ?_, ?_, ?_, ?_, ?_, ?_, ?_, ?_, ?_, ?_, ?_, ?_, trivial⟩) y (View.cover_of_tiled _ ![512, 512] rfl y)
      · intro x; refine Eq.trans ?_ (codes_emb 13 ![0, 6656] inb_S512x7168_S512x512_0_6656 rfl _ _ x).symm; dsimp only; rw [hr_4, hr_18, s13b, (show View.readAt (Elt F) arg7.view (Rect.unit (s := S1x7168) ![0, 6656] ![1, 512] inb_S1x7168_S1x512_0_6656).toLoadRect f5 = part 13 g from gp 13 _ _ rfl)]; rfl
      · intro x; refine Eq.trans ?_ (codes_emb 12 ![0, 6144] inb_S512x7168_S512x512_0_6144 rfl _ _ x).symm; dsimp only; rw [hr_24]; rfl
      · intro x; refine Eq.trans ?_ (codes_emb 11 ![0, 5632] inb_S512x7168_S512x512_0_5632 rfl _ _ x).symm; dsimp only; rw [hr_4, hr_18, s11, (show View.readAt (Elt F) arg7.view (Rect.unit (s := S1x7168) ![0, 5632] ![1, 512] inb_S1x7168_S1x512_0_5632).toLoadRect f5 = part 11 g from gp 11 _ _ rfl)]; rfl
      · intro x; refine Eq.trans ?_ (codes_emb 10 ![0, 5120] inb_S512x7168_S512x512_0_5120 rfl _ _ x).symm; dsimp only; rw [hr_23]; rfl
      · intro x; refine Eq.trans ?_ (codes_emb 9 ![0, 4608] inb_S512x7168_S512x512_0_4608 rfl _ _ x).symm; dsimp only; rw [hr_4, hr_18, s9, (show View.readAt (Elt F) arg7.view (Rect.unit (s := S1x7168) ![0, 4608] ![1, 512] inb_S1x7168_S1x512_0_4608).toLoadRect f5 = part 9 g from gp 9 _ _ rfl)]; rfl
      · intro x; refine Eq.trans ?_ (codes_emb 8 ![0, 4096] inb_S512x7168_S512x512_0_4096 rfl _ _ x).symm; dsimp only; rw [hr_18, hr_22, (show View.readAt (Elt F) arg7.view (Rect.unit (s := S1x7168) ![0, 4096] ![1, 512] inb_S1x7168_S1x512_0_4096).toLoadRect f5 = part 8 g from gp 8 _ _ rfl)]; rfl
      · intro x; refine Eq.trans ?_ (codes_emb 7 ![0, 3584] inb_S512x7168_S512x512_0_3584 rfl _ _ x).symm; dsimp only; rw [hr_4, hr_18, s7, (show View.readAt (Elt F) arg7.view (Rect.unit (s := S1x7168) ![0, 3584] ![1, 512] inb_S1x7168_S1x512_0_3584).toLoadRect f5 = part 7 g from gp 7 _ _ rfl)]; rfl
      · intro x; refine Eq.trans ?_ (codes_emb 6 ![0, 3072] inb_S512x7168_S512x512_0_3072 rfl _ _ x).symm; dsimp only; rw [hr_4, hr_18, s6, (show View.readAt (Elt F) arg7.view (Rect.unit (s := S1x7168) ![0, 3072] ![1, 512] inb_S1x7168_S1x512_0_3072).toLoadRect f5 = part 6 g from gp 6 _ _ rfl)]; rfl
      · intro x; refine Eq.trans ?_ (codes_emb 5 ![0, 2560] inb_S512x7168_S512x512_0_2560 rfl _ _ x).symm; dsimp only; rw [hr_4, hr_18, s5, (show View.readAt (Elt F) arg7.view (Rect.unit (s := S1x7168) ![0, 2560] ![1, 512] inb_S1x7168_S1x512_0_2560).toLoadRect f5 = part 5 g from gp 5 _ _ rfl)]; rfl
      · intro x; refine Eq.trans ?_ (codes_emb 4 ![0, 2048] inb_S512x7168_S512x512_0_2048 rfl _ _ x).symm; dsimp only; rw [hr_4, hr_18, s4, (show View.readAt (Elt F) arg7.view (Rect.unit (s := S1x7168) ![0, 2048] ![1, 512] inb_S1x7168_S1x512_0_2048).toLoadRect f5 = part 4 g from gp 4 _ _ rfl)]; rfl
      · intro x; refine Eq.trans ?_ (codes_emb 3 ![0, 1536] inb_S512x7168_S512x512_0_1536 rfl _ _ x).symm; dsimp only; rw [hr_21]; rfl
      · intro x; refine Eq.trans ?_ (codes_emb 2 ![0, 1024] inb_S512x7168_S512x512_0_1024 rfl _ _ x).symm; dsimp only; rw [hr_4, hr_18, s2, (show View.readAt (Elt F) arg7.view (Rect.unit (s := S1x7168) ![0, 1024] ![1, 512] inb_S1x7168_S1x512_0_1024).toLoadRect f5 = part 2 g from gp 2 _ _ rfl)]; rfl
      · intro x; refine Eq.trans ?_ (codes_emb 1 ![0, 512] inb_S512x7168_S512x512_0_512 rfl _ _ x).symm; dsimp only; rw [hr_18, hr_19, hr_20]; rfl
      · intro x; refine Eq.trans ?_ (codes_emb 0 ![0, 0] inb_S512x7168_S512x512_0_0 rfl _ _ x).symm; dsimp only; rw [hr_4, hr_15, hr_16, s0, (show View.readAt (Elt F) arg7.view (Rect.unit (s := S1x7168) ![0, 0] ![1, 512] inb_S1x7168_S1x512_0_0).toLoadRect f5 = part 0 g from gp 0 _ _ rfl)]; rfl
    isplitl [H8]
    · iexists _; isplitr; swap; · iexact H8
      ipureintro
      unfold nextScale; rw [if_pos h1, hB, hg]
      exact (read_store _ _ _ _ _ (by decide)).trans (congrArg k0_pay4 hr_17)
    iexists _; isplitr; swap; · iexact H9
    ipureintro
    exact read_put _ _ i _ _
  · sl_exec
    sl_step
    iapply Hk
    simp only [nextCodes, nextScale, if_neg h1]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      exact read_store _ _ _ _ _ (by decide)
    isplitl [H7]
    · iexists _; isplitr; swap; · iexact H7
      ipureintro
      rfl
    isplitl [H8]
    · iexists _; isplitr; swap; · iexact H8
      ipureintro
      rfl
    iexists _; isplitr; swap; · iexact H9
    ipureintro
    exact read_put _ _ i _ _

end Cert.OprojIdeal.Result

end
-- ==== Proof.OprojRun.lean ====
module

public import proofs.«01_k».proof.Proof.OprojStep
public import proofs.«01_k».proof.Proof.Gen.OprojIdeal.Frame
public import proofs.«01_k».proof.Proof.Gen.OprojIdeal.Points
public import proofs.«01_k».proof.Proof.Gen.OprojIdeal.Launch

/-! The run of the output projection's kernel over its grid. The tiles of one block of rows are kept until the block's
last point, which normalises, quantises and stores them; here is what they are before every point, and the run. -/

@[expose] public section
set_option maxRecDepth 16384

noncomputable section

namespace Cert.OprojIdeal.Result

open Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The schedule, read off the grid -/

theorem cond1_iff : ∀ t : Fin cfg0.N, k0_cond1 (grid0.coords t) = 1#1 ↔ t.val % 14 = 13 := by decide +kernel
theorem coord1 : ∀ t : Fin cfg0.N, (grid0.coords t 1).val = t.val % 14 := by decide +kernel
theorem idle6 : ∀ t : Fin cfg0.N, cfg0.idle 6 (cfg0.grid.coords t) = false := by decide +kernel
theorem idle7 : ∀ t : Fin cfg0.N, cfg0.idle 7 (cfg0.grid.coords t) = decide (t.val % 14 ≠ 13) := by decide +kernel
theorem idle8 : ∀ t : Fin cfg0.N, cfg0.idle 8 (cfg0.grid.coords t) = decide (t.val % 14 ≠ 13) := by decide +kernel
theorem flush7 : ∀ t : Fin cfg0.N, (cfg0.win 7).flush t = decide (t.val % 14 = 13) := by decide +kernel
theorem flush8 : ∀ t : Fin cfg0.N, (cfg0.win 8).flush t = decide (t.val % 14 = 13) := by decide +kernel

/-- The point numbered `n`. -/
def pt (n : ℕ) : Fin cfg0.N := ⟨n % 112, by have := Nat.mod_lt n (show 112 > 0 by decide); exact lt_of_lt_of_eq this N_0.symm⟩

theorem pt_val (t : Fin cfg0.N) : pt t.val = t :=
  Fin.ext (Nat.mod_eq_of_lt (lt_of_lt_of_eq t.isLt N_0))

/-! ## What the kept tiles are -/

/-- The tile of the rows to be normalised computed at point `n`. -/
def tile (c : Dev nD) (n : ℕ) : Vec F S1x512x512 .f32 :=
  tileRow (iblk m c 0 (pt n)) (iblk m c 1 (pt n)) (iblk m c 2 (pt n)) (iblk m c 3 (pt n)) (iblk m c 4 (pt n))

/-- The tiles of a whole block of rows. -/
def rowsAt (c : Dev nD) (i : ℕ) : Vec F S14x512x512 .f32 := fun y => tile m c (14 * i + (y 0).val) (ix3 0 (y 1) (y 2))

/-- The codes of the block of rows of point `n`. -/
def codesAt (c : Dev nD) (n : ℕ) : Vec F S512x7168 .fp8e4m3 := codes (rowsAt m c (n / 14)) (iblk m c 5 (pt n))

/-- The scales of the block of rows of point `n`. -/
def scaleAt (c : Dev nD) (n : ℕ) : Vec F S512x128 .f32 := k0_pay4 (scales (rowsAt m c (n / 14)) (iblk m c 5 (pt n)))

/-- What the kept tiles are before point `n`: those of its block's earlier points. -/
def Kept (c : Dev nD) (n : ℕ) (A : Vec F S14x512x512 .f32) : Prop :=
  ∀ p : ℕ, p < n → p / 14 = n / 14 → ∀ (y : Fin 512) (z : Fin 512),
    A (ix3 (⟨p % 14, Nat.mod_lt _ (by decide)⟩ : Fin 14) y z) = tile m c p (ix3 0 y z)

section Step

variable {m} {c : Dev nD} {t : Fin cfg0.N} {A : Vec F S14x512x512 .f32}

/-- After a point, its own tile is kept too. -/
theorem Kept.put (h : Kept m c t.val A) (p : ℕ) (hp : p < t.val + 1) (hr : p / 14 = t.val / 14) (y : Fin 512) (z : Fin 512) :
    nextRows (grid0.coords t) (iblk m c 0 t) (iblk m c 1 t) (iblk m c 2 t) (iblk m c 3 t) (iblk m c 4 t) A (ix3 (⟨p % 14, Nat.mod_lt _ (by decide)⟩ : Fin 14) y z) = tile m c p (ix3 0 y z) := by
  unfold nextRows
  by_cases hpt : p = t.val
  · subst hpt
    refine (if_pos (coord1 t).symm).trans ?_
    unfold tile
    rw [pt_val]
    rfl
  · refine (if_neg (fun hc => ?_)).trans (h p (by omega) hr y z)
    have : p % 14 = t.val % 14 := hc.trans (coord1 t)
    omega

theorem Kept.step (h : Kept m c t.val A) : Kept m c (t.val + 1) (nextRows (grid0.coords t) (iblk m c 0 t) (iblk m c 1 t) (iblk m c 2 t) (iblk m c 3 t) (iblk m c 4 t) A) :=
  fun p hp hr y z => h.put p hp (by omega) y z

/-- After the last point of a block of rows, all its tiles are kept. -/
theorem Kept.full (h : Kept m c t.val A) (h1 : t.val % 14 = 13) : nextRows (grid0.coords t) (iblk m c 0 t) (iblk m c 1 t) (iblk m c 2 t) (iblk m c 3 t) (iblk m c 4 t) A = rowsAt m c (t.val / 14) := by
  funext y
  have hy : (y 0).val < 14 := (y 0).isLt
  have e := h.put (14 * (t.val / 14) + (y 0).val) (by omega) (by omega) (y 1) (y 2)
  refine (congrArg (nextRows (grid0.coords t) (iblk m c 0 t) (iblk m c 1 t) (iblk m c 2 t) (iblk m c 3 t) (iblk m c 4 t) A) ?_).trans e
  funext a
  fin_cases a
  · exact Fin.ext (by show (y 0).val = (14 * (t.val / 14) + (y 0).val) % 14; omega)
  · rfl
  · rfl

theorem Kept.codes (h : Kept m c t.val A) (h1 : t.val % 14 = 13) (y7) :
    nextCodes (grid0.coords t) (iblk m c 0 t) (iblk m c 1 t) (iblk m c 2 t) (iblk m c 3 t) (iblk m c 4 t) (iblk m c 5 t) y7 A = codesAt m c t.val := by
  unfold nextCodes codesAt
  rw [if_pos ((cond1_iff t).2 h1), h.full h1, pt_val]

theorem Kept.scale (h : Kept m c t.val A) (h1 : t.val % 14 = 13) (y8) :
    nextScale (grid0.coords t) (iblk m c 0 t) (iblk m c 1 t) (iblk m c 2 t) (iblk m c 3 t) (iblk m c 4 t) (iblk m c 5 t) y8 A = scaleAt m c t.val := by
  unfold nextScale scaleAt
  rw [if_pos ((cond1_iff t).2 h1), h.full h1, pt_val]

end Step

/-! ## The proof data -/

/-- The kept tiles, at what they are before point `n`. -/
def keptAt (c : Dev nD) (n : ℕ) : sProp 𝕄 :=
  iprop((∃ A : Vec F S14x512x512 .f32, ⌜Kept m c n A⌝ ∗ owns (c : Thread nD τ) (Memref.whole cc0_scratch0) fullShare A) ∗ ∃ r, prngReg c r)

/-- The proof data: inputs stay at their blocks, the projection's tile is the point's, the codes and the scales are those
of the point's block of rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileAttn (iblk m c 0 t) (iblk m c 1 t) (iblk m c 2 t) (iblk m c 3 t)
    | ⟨7, _⟩ => codesAt m c t.val
    | ⟨8, _⟩ => scaleAt m c t.val
  Φ t := keptAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = tileAttn (iblk m c 0 t) (iblk m c 1 t) (iblk m c 2 t) (iblk m c 3 t) := by dsimp only [dats]
theorem after0_7 (c : Dev nD) (t : Fin cfg0.N) : (dats m 0 c).after 7 t = codesAt m c t.val := by dsimp only [dats]
theorem after0_8 (c : Dev nD) (t : Fin cfg0.N) : (dats m 0 c).after 8 t = scaleAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

theorem codes_left (c : Dev nD) (t : Fin cfg0.N) (A d) (h : Kept m c t.val A) :
    (owns (c : Thread nD τ) (st0_7 t) fullShare (nextCodes (grid0.coords t) (iblk m c 0 t) (iblk m c 1 t) (iblk m c 2 t) (iblk m c 3 t) (iblk m c 4 t) (iblk m c 5 t) ((dats m 0 c).before 7 t d) A) : sProp 𝕄) ⊢ (dats m 0 c).leavesExact 7 t := by
  by_cases h1 : t.val % 14 = 13
  · rw [h.codes h1]
    unfold Dat.leavesExact
    rw [show cfg0.idle 7 (cfg0.grid.coords t) = false from (idle7 t).trans (decide_eq_false (by omega)), after0_7]
  · rw [(dats m 0 c).leavesExact_idle 7 t ((idle7 t).trans (decide_eq_true h1)) ((flush7 t).trans (decide_eq_false h1))]
    unfold nextCodes
    rw [if_neg (fun hc => h1 ((cond1_iff t).1 hc))]
    iintro H; iexists d; iexact H

theorem scale_left (c : Dev nD) (t : Fin cfg0.N) (A d) (h : Kept m c t.val A) :
    (owns (c : Thread nD τ) (st0_8 t) fullShare (nextScale (grid0.coords t) (iblk m c 0 t) (iblk m c 1 t) (iblk m c 2 t) (iblk m c 3 t) (iblk m c 4 t) (iblk m c 5 t) ((dats m 0 c).before 8 t d) A) : sProp 𝕄) ⊢ (dats m 0 c).leavesExact 8 t := by
  by_cases h1 : t.val % 14 = 13
  · rw [h.scale h1]
    unfold Dat.leavesExact
    rw [show cfg0.idle 8 (cfg0.grid.coords t) = false from (idle8 t).trans (decide_eq_false (by omega)), after0_8]
  · rw [(dats m 0 c).leavesExact_idle 8 t ((idle8 t).trans (decide_eq_true h1)) ((flush8 t).trans (decide_eq_false h1))]
    unfold nextScale
    rw [if_neg (fun hc => h1 ((cond1_iff t).1 hc))]
    iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = keptAt m c (t.val + 1) from rfl, show (dats m 0 c).Φ t.castSucc = keptAt m c t.val from rfl,
    show (dats m 0 c).owesAt () t.succ = (dats m 0 c).owesAt () t.castSucc from rfl,
    after0_0, after0_1, after0_2, after0_3, after0_4, after0_5, after0_6]
  unfold keptAt
  iintro ⟨⟨⟨%A, %hK, HA⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) ((dats m 0 c).before 8 t d8) A _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  iintro ⟨H0, H1, H2, H3, H4, H5, H6, H7, H8, HA⟩
  isplitl [HA Hr]
  · isplitl [HA]
    · iexists _
      isplitr
      · ipureintro; exact hK.step
      iexact HA
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (codes_left m c t A d7 hK); iexact H7
  · iapply (scale_left m c t A d8 hK); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem kept_in (c : Dev nD) : Pipeline.ΦA spec0 c ⊢ (dats m 0 c).Φ 0 := by
  unfold Pipeline.ΦA
  rw [scopedRest0_eq, show (dats m 0 c).Φ 0 = keptAt m c 0 from rfl]
  unfold keptAt
  iintro ⟨⟨%A, HA⟩, Hr⟩
  isplitl [HA]
  · iexists A
    isplitr
    · ipureintro; exact fun p hp => absurd hp (Nat.not_lt_zero _)
    rw [owns_whole]
    iexact HA
  · iexact Hr

theorem kept_out (c : Dev nD) : (dats m 0 c).Φ (Fin.last cfg0.N) ⊢ Pipeline.ΦA spec0 c := by
  unfold Pipeline.ΦA
  rw [scopedRest0_eq, show (dats m 0 c).Φ (Fin.last cfg0.N) = keptAt m c cfg0.N from rfl]
  unfold keptAt
  simp only [owns_whole]
  iintro ⟨⟨%A, -, HA⟩, Hr⟩
  isplitl [HA]
  · iexists A; iexact HA
  · iexact Hr

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := kept_in m) (hout := kept_out m)

/-- Every execution ends, with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim: every execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.OprojIdeal.Result

end
-- ==== Proof.OprojSpec.lean ====
/- What the output projection and the normalisation after it compute, entry by entry over the extended reals: the rescaled
   product of the codes, the rows it is added to, the rows normalised by their root mean square, and their quantisation row
   by row with a power-of-two scale. -/
module

public import proofs.«01_k».proof.Proof.Gen.OprojIdeal
public import proofs.«01_k».proof.Proof.Quantiser
public import Idealize.ShloMosaic.Lib.Pipeline.ValueKit

@[expose] public section

set_option maxRecDepth 16384

noncomputable section

namespace Cert.OprojSpec

open Idealize.ShloMosaic Idealize.ShloMosaic.TcCoe Idealize.SL.Sem Cert.OprojIdeal

/-- Entry `(r, k)` of the product of the codes with the weights, rescaled by row and by column. -/
def attnAt (c2 : FVec Ideal S4096x7680 .fp8e4m3) (a2 : FVec Ideal S4096x128 .f32) (w : FVec Ideal S7680x7168 .fp8e4m3)
    (s : FVec Ideal S7168 .f32) (r : Fin 4096) (k : Fin 7168) : EReal :=
  (∑ x : Fin 7680, c2 (ix2 r x) * w (ix2 x k)) * a2 (ix2 r 0) * s (ix1 k)

/-- Entry `(r, k)` of the rows to be normalised: the input plus the projection. -/
def rowAt (c2 : FVec Ideal S4096x7680 .fp8e4m3) (a2 : FVec Ideal S4096x128 .f32) (w : FVec Ideal S7680x7168 .fp8e4m3)
    (s : FVec Ideal S7168 .f32) (xs : FVec Ideal S4096x7168 .bf16) (r : Fin 4096) (k : Fin 7168) : EReal :=
  xs (ix2 r k) + attnAt c2 a2 w s r k

/-- The reciprocal root of the mean square of a row, kept away from zero by the constant under the root. -/
def rootOf (h : Fin 7168 → EReal) : EReal :=
  FloatOps.rsqrt (F := Ideal) (φ := .f32) (Ideal.div (∑ k : Fin 7168, h k * h k) (Ideal.ofBits .f32 0x45E00000#32) + Ideal.ofBits .f32 0x358637BD#32 : EReal)

/-- Entry `k` of a normalised row, with gains `g`. -/
def normOf (h : Fin 7168 → EReal) (g : FVec Ideal S7168 .f32) (k : Fin 7168) : EReal := h k * rootOf h * g (ix1 k)

/-- The greatest magnitude of a normalised row. -/
def maxOf (h : Fin 7168 → EReal) (g : FVec Ideal S7168 .f32) : EReal :=
  Finset.univ.fold max (Ideal.ofBits .f32 4286578688#32) fun k : Fin 7168 =>
    (FloatOps.absf (F := Ideal) (φ := .f32) (normOf h g k) : EReal)

/-- The projection. -/
def attn (c2 : FVec Ideal S4096x7680 .fp8e4m3) (a2 : FVec Ideal S4096x128 .f32) (w : FVec Ideal S7680x7168 .fp8e4m3)
    (s : FVec Ideal S7168 .f32) : FVec Ideal S4096x7168 .f32 := fun j => attnAt c2 a2 w s (j 0) (j 1)

/-- The codes. -/
def codes (c2 : FVec Ideal S4096x7680 .fp8e4m3) (a2 : FVec Ideal S4096x128 .f32) (w : FVec Ideal S7680x7168 .fp8e4m3)
    (s : FVec Ideal S7168 .f32) (xs : FVec Ideal S4096x7168 .bf16) (g : FVec Ideal S7168 .f32) : FVec Ideal S4096x7168 .fp8e4m3 := fun j =>
  Quantiser.code (normOf (rowAt c2 a2 w s xs (j 0)) g (j 1)) (maxOf (rowAt c2 a2 w s xs (j 0)) g)

/-- The scales, the same in every column. -/
def scales (c2 : FVec Ideal S4096x7680 .fp8e4m3) (a2 : FVec Ideal S4096x128 .f32) (w : FVec Ideal S7680x7168 .fp8e4m3)
    (s : FVec Ideal S7168 .f32) (xs : FVec Ideal S4096x7168 .bf16) (g : FVec Ideal S7168 .f32) : FVec Ideal S4096x128 .f32 := fun j =>
  Quantiser.scale (maxOf (rowAt c2 a2 w s xs (j 0)) g)

theorem attn_congr {c2 c2' a2 a2' w w' s s'} (h0 : c2 = c2') (h1 : a2 = a2') (h2 : w = w') (h3 : s = s') :
    attn c2 a2 w s = attn c2' a2' w' s' := by
  subst h0 h1 h2 h3; rfl

theorem codes_congr {c2 c2' a2 a2' w w' s s' xs xs' g g'} (h0 : c2 = c2') (h1 : a2 = a2') (h2 : w = w') (h3 : s = s')
    (h4 : xs = xs') (h5 : g = g') : codes c2 a2 w s xs g = codes c2' a2' w' s' xs' g' := by
  subst h0 h1 h2 h3 h4 h5; rfl

theorem scales_congr {c2 c2' a2 a2' w w' s s' xs xs' g g'} (h0 : c2 = c2') (h1 : a2 = a2') (h2 : w = w') (h3 : s = s')
    (h4 : xs = xs') (h5 : g = g') : scales c2 a2 w s xs g = scales c2' a2' w' s' xs' g' := by
  subst h0 h1 h2 h3 h4 h5; rfl

/-- The width is the number the constant under the division stands for, so dividing by it is multiplying by its reciprocal. -/
theorem div_width (x : EReal) : Ideal.div x (Ideal.ofBits .f32 0x45E00000#32) = x * ((1 / 7168 : ℝ) : EReal) := by
  have e : Ideal.ofBits .f32 0x45E00000#32 = ((7168 : ℝ) : EReal) := by
    simp [Ideal.ofBits, Ideal.ieee, -EReal.coe_mul]; norm_num
  rw [e]
  exact Ideal.div_coe (by norm_num) x

/-- A magnitude is not negative. -/
theorem abs_nonneg (x : EReal) : (0 : EReal) ≤ FloatOps.absf (F := Ideal) (φ := .f32) x := by
  show (0 : EReal) ≤ max x (-x)
  rcases le_total 0 x with h | h
  · exact le_max_of_le_left h
  · exact le_max_of_le_right (by rw [← neg_zero]; exact EReal.neg_le_neg_iff.2 h)

/-- A sum over a row's columns, tile by tile from zero. -/
theorem sum_tiles (f : Fin 7168 → EReal) (T : Fin 14 → EReal) (h : ∀ n : Fin 14, T n = ∑ z : Fin 512, f ⟨512 * n.val + z.val, by omega⟩) :
    0 + T 0 + T 1 + T 2 + T 3 + T 4 + T 5 + T 6 + T 7 + T 8 + T 9 + T 10 + T 11 + T 12 + T 13 = ∑ k : Fin 7168, f k := by
  have e : ∑ k : Fin 7168, f k = ∑ n : Fin 14, T n := by
    rw [← (finProdFinEquiv (m := 14) (n := 512)).sum_comp, Fintype.sum_prod_type]
    refine Finset.sum_congr rfl fun n _ => ?_
    rw [h]
    exact Finset.sum_congr rfl fun z _ => congrArg f (Fin.ext (by show z.val + 512 * n.val = 512 * n.val + z.val; omega))
  rw [e]
  simp only [Fin.sum_univ_castSucc, Finset.univ_eq_empty, Finset.sum_empty]
  rfl

/-- A maximum over a row's columns, tile by tile from zero, of what is not negative. -/
theorem max_tiles (f : Fin 7168 → EReal) (hf : ∀ k, 0 ≤ f k) (T : Fin 14 → EReal)
    (h : ∀ n : Fin 14, T n = Finset.univ.fold max (Ideal.ofBits .f32 4286578688#32) fun z : Fin 512 => f ⟨512 * n.val + z.val, by omega⟩) :
    max (max (max (max (max (max (max (max (max (max (max (max (max (max 0 (T 0)) (T 1)) (T 2)) (T 3)) (T 4)) (T 5)) (T 6)) (T 7)) (T 8)) (T 9)) (T 10)) (T 11)) (T 12)) (T 13)
      = Finset.univ.fold max (Ideal.ofBits .f32 4286578688#32) f := by
  have hM : ∀ c : EReal, max (max (max (max (max (max (max (max (max (max (max (max (max (max 0 (T 0)) (T 1)) (T 2)) (T 3)) (T 4)) (T 5)) (T 6)) (T 7)) (T 8)) (T 9)) (T 10)) (T 11)) (T 12)) (T 13) ≤ c
      ↔ 0 ≤ c ∧ ∀ n : Fin 14, T n ≤ c := by
    intro c
    simp only [max_le_iff]
    constructor
    · rintro ⟨⟨⟨⟨⟨⟨⟨⟨⟨⟨⟨⟨⟨⟨hc, h0⟩, h1⟩, h2⟩, h3⟩, h4⟩, h5⟩, h6⟩, h7⟩, h8⟩, h9⟩, h10⟩, h11⟩, h12⟩, h13⟩
      refine ⟨hc, fun n => ?_⟩
      fin_cases n <;> assumption
    · rintro ⟨hc, hn⟩
      exact ⟨⟨⟨⟨⟨⟨⟨⟨⟨⟨⟨⟨⟨⟨hc, hn _⟩, hn _⟩, hn _⟩, hn _⟩, hn _⟩, hn _⟩, hn _⟩, hn _⟩, hn _⟩, hn _⟩, hn _⟩, hn _⟩, hn _⟩, hn _⟩
  refine eq_of_forall_ge_iff fun c => ?_
  rw [hM, Finset.fold_max_le]
  simp only [h, Finset.fold_max_le]
  constructor
  · rintro ⟨hc, hn⟩
    refine ⟨(hn 0).1, fun k _ => ?_⟩
    have := (hn ⟨k.val / 512, by omega⟩).2 ⟨k.val % 512, Nat.mod_lt _ (by decide)⟩ (Finset.mem_univ _)
    rwa [show (⟨512 * (k.val / 512) + k.val % 512, by omega⟩ : Fin 7168) = k from Fin.ext (Nat.div_add_mod _ _)] at this
  · rintro ⟨hb, hk⟩
    exact ⟨(hf 0).trans (hk 0 (Finset.mem_univ _)), fun n => ⟨hb, fun z _ => hk _ (Finset.mem_univ _)⟩⟩

end Cert.OprojSpec

end
-- ==== Proof.OprojKernel.lean ====
/- The output projection's arrays, entry by entry over the extended reals. -/
module

public import proofs.«01_k».proof.Proof.OprojRun
public import proofs.«01_k».proof.Proof.OprojSpec
public import Idealize.ShloMosaic.Lib.Pipeline.ValueKit
public import Idealize.ShloMosaic.Lib.Pipeline.ReadBack

@[expose] public section
set_option maxRecDepth 16384

noncomputable section

namespace Cert.OprojIdeal.Result

open Idealize.ShloMosaic Idealize.ShloMosaic.TcCoe Idealize.SL.Sem
open Idealize.ShloMosaic.Pipeline (Dat)
open Cert.OprojIdeal Cert.OprojIdeal.Gen

/-! ## What one step computes -/

/-- The sum of squares of a tile's row. -/
def sq (s : Vec Ideal S1x512x512 .f32) (y : Fin 512) : EReal := ∑ z : Fin 512, (s (ix3 0 y z) : EReal) * s (ix3 0 y z)

/-- The greatest magnitude of a tile's row, scaled by the row's factor `r` and the gains `g`. -/
def mx (r : FVec Ideal S512x1 .f32) (s : Vec Ideal S1x512x512 .f32) (g : Vec Ideal S1x512 .f32) (y : Fin 512) : EReal :=
  Finset.univ.fold max (Ideal.ofBits .f32 4286578688#32) fun z : Fin 512 =>
    (FloatOps.absf (F := Ideal) (φ := .f32) ((s (ix3 0 y z) : EReal) * r (ix2 y 0) * g (ix2 0 z)) : EReal)

theorem pay5_apply (s0 s1 s2 s3 s4 y) : k0_pay5 (F := Ideal) s0 s1 s2 s3 s4 (ix2 y 0) = 0 + sq s0 y + sq s1 y + sq s2 y + sq s3 y + sq s4 y := by
  pointwise [k0_pay5, sq]

theorem pay6_apply (s y) : k0_pay6 (F := Ideal) s (ix1 y) = sq s y := by
  pointwise [k0_pay6, sq]

theorem pay8_apply (s y) : k0_pay8 (F := Ideal) s (ix1 y) = sq s y := by
  pointwise [k0_pay8, sq]

theorem pay7_apply (a b s6 s7 s8 s9 s10 y) : k0_pay7 (F := Ideal) a b s6 s7 s8 s9 s10 (ix2 y 0) = (a (ix2 y 0) : EReal) + b (ix1 y) + sq s6 y + sq s7 y + sq s8 y + sq s9 y + sq s10 y := by
  pointwise [k0_pay7, sq]

theorem pay9_apply (a b s12 s13 y) : k0_pay9 (F := Ideal) a b s12 s13 (ix2 y 0) = FloatOps.rsqrt (F := Ideal) (φ := .f32) (((a (ix2 y 0) : EReal) + b (ix1 y) + sq s12 y + sq s13 y) * ((1 / 7168 : ℝ) : EReal) + Ideal.ofBits .f32 0x358637BD#32 : EReal) := by
  rw [← IdealRules.named_const.ideal_named_scalar (φ := .f32) κ "inv_width" 0x39124925#32 ((1 / 7168 : ℝ) : EReal) rfl]
  pointwise [k0_pay9, sq]

theorem pay10_apply (a b s12 s13 s0 g y) : k0_pay10 (F := Ideal) a b s12 s13 s0 g (ix2 y 0) = max (0 : EReal) (mx (k0_pay9 a b s12 s13) s0 g y) := by
  pointwise [k0_pay10, mx]

theorem pay11_apply (a b s12 s13 s y z) : k0_pay11 (F := Ideal) a b s12 s13 s (ix2 y z) = (s (ix3 0 y z) : EReal) * k0_pay9 a b s12 s13 (ix2 y 0) := by
  pointwise [k0_pay11]

theorem pay13_apply (r M s1 g1 s2 g2 s3 g3 y) : k0_pay13 (F := Ideal) r M s1 (k0_pay12 g1) s2 g2 s3 g3 (ix2 y 0) =
   max (max (max (M (ix2 y 0) : EReal) (Finset.univ.fold max (Ideal.ofBits .f32 4286578688#32) fun z : Fin 512 => (FloatOps.absf (F := Ideal) (φ := .f32) ((s1 (ix2 y z) : EReal) * g1 (ix2 0 z)) : EReal))) (mx r s2 g2 y)) (mx r s3 g3 y) := by
  pointwise [k0_pay13, k0_pay12, mx]

theorem pay14_apply (r s g y) : k0_pay14 (F := Ideal) r s g (ix2 y 0) = mx r s g y := by
  pointwise [k0_pay14, mx]

theorem pay15_apply (r M p s1 g1 s2 g2 s3 g3 y) : k0_pay15 (F := Ideal) r M p s1 g1 s2 g2 s3 g3 (ix2 y 0) =
   max (max (max (max (M (ix2 y 0) : EReal) (p (ix2 y 0))) (mx r s1 g1 y)) (mx r s2 g2 y)) (mx r s3 g3 y) := by
  pointwise [k0_pay15, mx]

theorem pay17_apply (r M s1 g1 s2 g2 s3 g3 y) : k0_pay17 (F := Ideal) r M (k0_pay16 s1) g1 s2 g2 s3 g3 (ix2 y 0) =
   max (max (max (M (ix2 y 0) : EReal) (mx r s1 g1 y)) (mx r s2 g2 y)) (mx r s3 g3 y) := by
  pointwise [k0_pay17, k0_pay16, mx]

theorem pay20_apply (r M s1 g1 s2 g2 s3 g3 y) : k0_pay20 (F := Ideal) r M (k0_pay18 r s1) (k0_pay19 g1) s2 g2 s3 g3 (ix2 y 0) =
   max (max (max (M (ix2 y 0) : EReal) (mx r s1 g1 y)) (mx r s2 g2 y)) (mx r s3 g3 y) * Quantiser.recip := by
  pointwise [k0_pay20, k0_pay18, k0_pay19, mx, Quantiser.recip]

theorem pay3_apply (r i s g j) : k0_pay3 (F := Ideal) r i s g j = min (Ideal.ofBits FTy.f32 1138753536#32)
      (max (Ideal.ofBits FTy.f32 3286237184#32) ((s (ix3 0 (j 0) (j 1)) : EReal) * r (ix2 (j 0) 0) * g (ix2 0 (j 1)) * i (ix2 (j 0) 0))) := by
  pointwise [k0_pay3]

theorem pay4_apply (s j) : k0_pay4 (F := Ideal) s j = s (ix2 (j 0) 0) := by
  pointwise [k0_pay4]

theorem pay1_apply (v0 v1 v3 v6 j) : k0_pay1 (F := Ideal) v0 v1 v3 v6 j = (∑ k : Fin 7680, v0 (ix2 (j 0) k) * v1 (ix2 k (j 1))) * v3 (ix2 (j 0) 0) * v6 (ix2 0 (j 1)) := by
  pointwise [k0_pay1]

theorem pay2_apply (v0 v1 v3 v6 x) (y : Fin 512) (z : Fin 512) : k0_pay2 (F := Ideal) v0 v1 v3 v6 x (ix3 0 y z) = (x (ix2 y z) : EReal) + k0_pay1 (F := Ideal) v0 v1 v3 v6 (ix2 y z) := by
  pointwise [k0_pay2]
theorem expo_pay (r M s1 g1 s2 g2 s3 g3) (y : Fin 512) :
    k0_pay22 (F := Ideal) (k0_pay20 (F := Ideal) r M s1 g1 s2 g2 s3 g3) (k0_pay21 (F := Ideal) r M s1 g1 s2 g2 s3 g3) (ix2 y 0)
      = BitVec.ofInt 32 (Quantiser.expo (k0_pay20 (F := Ideal) r M s1 g1 s2 g2 s3 g3 (ix2 y 0))) := by
  rw [← Quantiser.word_eq]
  pointwise [k0_pay22, k0_pay21]

theorem scale_pay (R : FVec Ideal S512x1 .f32) (C : IVec S512 32) (y : Fin 512) :
    k0_pay23 (F := Ideal) R C (ix2 y 0) = Ideal.ofBits FTy.f32 (IntOp.shli ArithUnit.vector (IntOp.addi (k0_pay22 R C (ix2 y 0)) 127#32) 23#32) := by
  pointwise [k0_pay23]

theorem inv_pay (R : FVec Ideal S512x1 .f32) (C : IVec S512 32) (y : Fin 512) :
    k0_pay24 (F := Ideal) R C (ix2 y 0) = Ideal.ofBits FTy.f32 (IntOp.shli ArithUnit.vector (IntOp.subi 127#32 (k0_pay22 R C (ix2 y 0))) 23#32) := by
  pointwise [k0_pay24]

/-! ## What a block's last point computes, row by row -/

section Row

variable (A : Vec Ideal S14x512x512 .f32) (x5 : Vec Ideal S1x7168 .f32) (y : Fin 512) (h : Fin 7168 → EReal) (g : FVec Ideal S7168 .f32)
  (hA : ∀ (n : Fin 14) (z : Fin 512), (A (ix3 n y z) : EReal) = h ⟨512 * n.val + z.val, by omega⟩) (hg : ∀ k : Fin 7168, x5 (ix2 0 k) = g (ix1 k))

include hA in
theorem root_apply : root A (ix2 y 0) = OprojSpec.rootOf h := by
  unfold root sumA
  rw [pay9_apply, pay7_apply, pay5_apply, pay6_apply, pay8_apply]
  rw [OprojSpec.sum_tiles (fun k => h k * h k) (fun n => sq (slice n A) y) fun n => Finset.sum_congr rfl fun z _ => congrArg₂ (· * ·) (hA n z) (hA n z)]
  unfold OprojSpec.rootOf
  rw [OprojSpec.div_width]

include hA hg in
theorem mx_apply (n : Fin 14) : mx (root A) (slice n A) (part n x5) y
    = Finset.univ.fold max (Ideal.ofBits .f32 4286578688#32) fun z : Fin 512 =>
      (FloatOps.absf (F := Ideal) (φ := .f32) (OprojSpec.normOf h g ⟨512 * n.val + z.val, by omega⟩) : EReal) := by
  unfold mx OprojSpec.normOf
  rw [root_apply A y h hA]
  exact congrArg (fun f => Finset.univ.fold max (Ideal.ofBits .f32 4286578688#32) f) (funext fun z => congrArg (FloatOps.absf (F := Ideal) (φ := .f32))
    (congrArg₂ (· * ·) (congrArg (· * OprojSpec.rootOf h) (hA n z)) (hg _)))

theorem mx_second : (Finset.univ.fold max (Ideal.ofBits .f32 4286578688#32) fun z : Fin 512 => (FloatOps.absf (F := Ideal) (φ := .f32)
      ((k0_pay11 (F := Ideal) (sumA A) (k0_pay8 (slice 11 A)) (slice 12 A) (slice 13 A) (slice 1 A) (ix2 y z) : EReal) * part 1 x5 (ix2 0 z)) : EReal))
    = mx (root A) (slice 1 A) (part 1 x5) y :=
  congrArg (fun f => Finset.univ.fold max (Ideal.ofBits .f32 4286578688#32) f) (funext fun z => congrArg (FloatOps.absf (F := Ideal) (φ := .f32))
    (congrArg (· * (part 1 x5 (ix2 0 z) : EReal)) (pay11_apply _ _ _ _ _ y z)))

include hA hg in
theorem ratio_apply : ratio A x5 (ix2 y 0) = OprojSpec.maxOf h g * Quantiser.recip := by
  unfold ratio maxD maxC maxB maxA
  rw [pay20_apply, pay17_apply, pay15_apply, pay14_apply, pay13_apply, mx_second, pay10_apply]
  exact congrArg (· * Quantiser.recip) (OprojSpec.max_tiles (fun k => (FloatOps.absf (F := Ideal) (φ := .f32) (OprojSpec.normOf h g k) : EReal))
    (fun k => OprojSpec.abs_nonneg _) (fun n => mx (root A) (slice n A) (part n x5) y) (mx_apply A x5 y h g hA hg))

include hA hg in
theorem scales_apply : scales A x5 (ix2 y 0) = Quantiser.scale (OprojSpec.maxOf h g) := by
  have e : k0_pay22 (ratio A x5) (counts A x5) (ix2 y 0) = BitVec.ofInt 32 (Quantiser.expo (ratio A x5 (ix2 y 0))) := expo_pay _ _ _ _ _ _ _ _ y
  rw [ratio_apply A x5 y h g hA hg] at e
  refine (scale_pay (ratio A x5) (counts A x5) y).trans ?_
  rw [e]
  exact Quantiser.scale_word _ (Quantiser.expo_range _)

include hA hg in
theorem invs_apply : invs A x5 (ix2 y 0) = Quantiser.inv (OprojSpec.maxOf h g) := by
  have e : k0_pay22 (ratio A x5) (counts A x5) (ix2 y 0) = BitVec.ofInt 32 (Quantiser.expo (ratio A x5 (ix2 y 0))) := expo_pay _ _ _ _ _ _ _ _ y
  rw [ratio_apply A x5 y h g hA hg] at e
  refine (inv_pay (ratio A x5) (counts A x5) y).trans ?_
  rw [e]
  exact Quantiser.inv_word _ (Quantiser.expo_range _)

include hA hg in
theorem codeTile_apply (n : Fin 14) (z : Fin 512) : codeTile n A x5 (ix2 y z)
    = Quantiser.code (OprojSpec.normOf h g ⟨512 * n.val + z.val, by omega⟩) (OprojSpec.maxOf h g) := by
  refine (pay3_apply _ _ _ _ (ix2 y z)).trans ?_
  show min _ (max _ (((A (ix3 n y z) : EReal) * root A (ix2 y 0) * x5 (ix2 0 ⟨512 * n.val + z.val, by omega⟩)) * invs A x5 (ix2 y 0))) = _
  rw [invs_apply A x5 y h g hA hg, root_apply A y h hA, hA, hg]
  rfl

include hA hg in
theorem codes_apply (k : Fin 7168) : codes A x5 (ix2 y k) = Quantiser.code (OprojSpec.normOf h g k) (OprojSpec.maxOf h g) := by
  refine (codeTile_apply A x5 y h g hA hg ⟨k.val / 512, by omega⟩ ⟨k.val % 512, Nat.mod_lt _ (by decide)⟩).trans ?_
  exact congrArg (fun x => Quantiser.code (OprojSpec.normOf h g x) (OprojSpec.maxOf h g)) (Fin.ext (Nat.div_add_mod _ _))

end Row

/-! ## What the kept tiles hold, in the arrays' coordinates -/

variable (m : (ℓ : Loc nD τ sig) → Buf (Elt Ideal) ℓ)

/-- Which blocks the windows hold at a point. -/
theorem idx_in : ∀ t : Fin cfg0.N, win0_0.index t = ![t.val / 14, 0] ∧ win0_1.index t = ![t.val / 14, 0]
    ∧ win0_2.index t = ![0, t.val % 14] ∧ win0_3.index t = ![0, t.val % 14]
    ∧ win0_4.index t = ![t.val / 14, t.val % 14] ∧ win0_5.index t = ![0, 0] :=
  (by decide +kernel : ∀ t : Fin grid0.N, _)

/-- Which blocks the windows of the results hold at a point. -/
theorem idx_out : ∀ t : Fin cfg0.N, win0_6.index t = ![t.val / 14, t.val % 14] ∧ win0_7.index t = ![t.val / 14, 0]
    ∧ win0_8.index t = ![t.val / 14, 0] :=
  (by decide +kernel : ∀ t : Fin grid0.N, _)

/-- The projection of the arrays the kernel is given. -/
abbrev fullAttn (c : Dev nD) : Fin 4096 → Fin 7168 → EReal := OprojSpec.attnAt (m ((c : Thread nD τ).loc main_arg0)) (m ((c : Thread nD τ).loc main_arg1)) (m ((c : Thread nD τ).loc main_arg2)) (m ((c : Thread nD τ).loc main_arg3))

/-- The rows to be normalised. -/
abbrev fullRow (c : Dev nD) : Fin 4096 → Fin 7168 → EReal := OprojSpec.rowAt (m ((c : Thread nD τ).loc main_arg0)) (m ((c : Thread nD τ).loc main_arg1)) (m ((c : Thread nD τ).loc main_arg2)) (m ((c : Thread nD τ).loc main_arg3)) (m ((c : Thread nD τ).loc main_arg4))

/-- One entry of the projection, computed from the blocks at its point. -/
theorem attn_apply (c : Dev nD) (t : Fin cfg0.N) (y : Fin 512) (z : Fin 512) :
    tileAttn (iblk m c 0 t) (iblk m c 1 t) (iblk m c 2 t) (iblk m c 3 t) (ix2 y z)
      = fullAttn m c ⟨512 * (t.val / 14) + y.val, by have := lt_of_lt_of_eq t.isLt N_0; omega⟩ ⟨512 * (t.val % 14) + z.val, by omega⟩ := by
  unfold tileAttn
  rw [pay1_apply]
  obtain ⟨h0, h1, h2, h3, h4, h5⟩ := idx_in t
  pointwise [fullAttn, OprojSpec.attnAt]
  blk_point [iblk, V, h0, h1, h2, h3, h4, h5]

/-- One entry of a tile of the input, from the block at its point. -/
theorem xs_apply (c : Dev nD) (t : Fin cfg0.N) (y : Fin 512) (z : Fin 512) :
    View.ld (iblk m c 4 t) rTile (ix2 y z)
      = (m ((c : Thread nD τ).loc main_arg4) : FVec Ideal S4096x7168 .bf16)
          (ix2 ⟨512 * (t.val / 14) + y.val, by have := lt_of_lt_of_eq t.isLt N_0; omega⟩ ⟨512 * (t.val % 14) + z.val, by omega⟩) := by
  obtain ⟨h0, h1, h2, h3, h4, h5⟩ := idx_in t
  pointwise []
  blk_point [iblk, V, h4]

/-- One gain, from the block at any point. -/
theorem gain_apply (c : Dev nD) (t : Fin cfg0.N) (k : Fin 7168) :
    (iblk m c 5 t : Vec Ideal S1x7168 .f32) (ix2 0 k) = (m ((c : Thread nD τ).loc main_arg5) : FVec Ideal S7168 .f32) (ix1 k) := by
  obtain ⟨h0, h1, h2, h3, h4, h5⟩ := idx_in t
  blk_point [iblk, V, h5]

/-- One entry of a tile held. -/
theorem tile_apply (c : Dev nD) (n : ℕ) (hn : n < 112) (y : Fin 512) (z : Fin 512) :
    (tile m c n (ix3 0 y z) : EReal) = fullRow m c ⟨512 * (n / 14) + y.val, by omega⟩ ⟨512 * (n % 14) + z.val, by omega⟩ := by
  have hp : pt n = ⟨n, lt_of_lt_of_eq hn N_0.symm⟩ := Fin.ext (Nat.mod_eq_of_lt hn)
  unfold tile tileRow
  rw [hp]
  refine (pay2_apply _ _ _ _ _ y z).trans ?_
  exact congrArg₂ (· + ·) (xs_apply m c _ y z) (attn_apply m c ⟨n, lt_of_lt_of_eq hn N_0.symm⟩ y z)

/-- One entry of the tiles of a block of rows. -/
theorem rowsAt_apply (c : Dev nD) (i : ℕ) (hi : i < 8) (y : Fin 512) (r : Fin 4096) (hr : r.val = 512 * i + y.val) (n : Fin 14) (z : Fin 512) :
    (rowsAt m c i (ix3 n y z) : EReal) = fullRow m c r ⟨512 * n.val + z.val, by omega⟩ :=
  (tile_apply m c (14 * i + n.val) (by omega) y z).trans (congrArg₂ (fullRow m c)
    (Fin.ext (by show 512 * ((14 * i + n.val) / 14) + y.val = r.val; omega))
    (Fin.ext (by show 512 * ((14 * i + n.val) % 14) + z.val = 512 * n.val + z.val; omega)))

/-- One code of the block stored at a point. -/
theorem codesAt_apply (c : Dev nD) (n : ℕ) (hn : n < 112) (j : S512x7168.Idx) (r : Fin 4096) (k : Fin 7168)
    (hr : r.val = 512 * (n / 14) + (j 0).val) (hk : k.val = (j 1).val) :
    codesAt m c n j = Quantiser.code (OprojSpec.normOf (fullRow m c r) (m ((c : Thread nD τ).loc main_arg5)) k)
      (OprojSpec.maxOf (fullRow m c r) (m ((c : Thread nD τ).loc main_arg5))) := by
  have hj : j = ix2 (j 0) k := by
    funext a; fin_cases a
    · rfl
    · exact Fin.ext hk.symm
  rw [hj]
  exact codes_apply _ _ (j 0) (fullRow m c r) (m ((c : Thread nD τ).loc main_arg5))
    (fun a z => rowsAt_apply m c (n / 14) (by omega) (j 0) r hr a z) (gain_apply m c _) k

/-- One scale of the block stored at a point. -/
theorem scaleAt_apply (c : Dev nD) (n : ℕ) (hn : n < 112) (j : S512x128.Idx) (r : Fin 4096) (hr : r.val = 512 * (n / 14) + (j 0).val) :
    scaleAt m c n j = Quantiser.scale (OprojSpec.maxOf (fullRow m c r) (m ((c : Thread nD τ).loc main_arg5))) := by
  refine (pay4_apply _ j).trans ?_
  exact scales_apply _ _ (j 0) (fullRow m c r) (m ((c : Thread nD τ).loc main_arg5))
    (fun a z => rowsAt_apply m c (n / 14) (by omega) (j 0) r hr a z) (gain_apply m c _)

/-- One entry of the projection's block at a point. -/
theorem attnAt_apply (c : Dev nD) (t : Fin cfg0.N) (j : S512x512.Idx) (r : Fin 4096) (k : Fin 7168)
    (hr : r.val = 512 * (t.val / 14) + (j 0).val) (hk : k.val = 512 * (t.val % 14) + (j 1).val) :
    tileAttn (iblk m c 0 t) (iblk m c 1 t) (iblk m c 2 t) (iblk m c 3 t) j = fullAttn m c r k := by
  have hj : j = ix2 (j 0) (j 1) := by funext a; fin_cases a <;> rfl
  rw [hj]
  exact (attn_apply m c t (j 0) (j 1)).trans (congrArg₂ (fullAttn m c) (Fin.ext hr.symm) (Fin.ext hk.symm))

/-! ## The arrays after the run -/

/-- The projection. -/
theorem final6 (c : Dev nD) : (dats m 0 c).arrAt 6 (cfgs 0).N
    = OprojSpec.attn (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have hN : t.val < 112 := lt_of_lt_of_eq t.isLt N_0
  obtain ⟨h6, h7, h8⟩ := idx_out t
  blk_simp
  rw [after0_6]
  exact attnAt_apply m c t y _ _ (by blk_simp [h6]; omega) (by blk_simp [h6]; omega)

/-- The codes. -/
theorem final7 (c : Dev nD) : (dats m 0 c).arrAt 7 (cfgs 0).N
    = OprojSpec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have hN : t.val < 112 := lt_of_lt_of_eq t.isLt N_0
  obtain ⟨h6, h7, h8⟩ := idx_out t
  blk_simp
  rw [after0_7]
  exact codesAt_apply m c t.val hN y _ _ (by blk_simp [h7]; omega) (by blk_simp [h7])

/-- The scales. -/
theorem final8 (c : Dev nD) : (dats m 0 c).arrAt 8 (cfgs 0).N
    = OprojSpec.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have hN : t.val < 112 := lt_of_lt_of_eq t.isLt N_0
  obtain ⟨h6, h7, h8⟩ := idx_out t
  blk_simp
  rw [after0_8]
  exact scaleAt_apply m c t.val hN y _ (by blk_simp [h8]; omega)

end Cert.OprojIdeal.Result

end
-- ==== Proof.OprojRefValue.lean ====
module

public import proofs.«01_k».proof.Proof.Gen.OprojRefIdeal.Frame
public import proofs.«01_k».proof.Proof.Gen.OprojRefIdeal.Points
public import proofs.«01_k».proof.Proof.Gen.OprojRefIdeal.Launch
public import proofs.«01_k».proof.Proof.OprojSpec
public import Idealize.ShloMosaic.Lib.Pipeline.ValueKit
public import Idealize.ShloMosaic.Lib.Pipeline.ReadBack

@[expose] public section
set_option maxRecDepth 16384

noncomputable section

namespace Cert.OprojRefIdeal.Result

open Idealize.ShloMosaic Idealize.ShloMosaic.TcCoe Idealize.SL.Sem
open Idealize.ShloMosaic.Pipeline (Dat)
open Cert.OprojRefIdeal Cert.OprojRefIdeal.Gen

variable (m : (ℓ : Loc nD τ sig) → Buf (Elt Ideal) ℓ)

/-! ## What the reference's values are -/

theorem attn_apply (v0 v1 v2 v3 j) : k0_pay4 (F := Ideal) v0 v1 v2 v3 j
    = (∑ k : Fin 7680, v0 (ix2 (j 0) k) * v2 (ix2 k (j 1))) * v1 (ix2 (j 0) 0) * v3 (ix2 0 (j 1)) := by
  pointwise [k0_pay4]

/-- The rows to be normalised, as the reference computes them. -/
def rows (v0 : Vec Ideal S4096x7680 .fp8e4m3) (v1 : Vec Ideal S4096x1 .f32) (v2 : Vec Ideal S7680x7168 .fp8e4m3) (v3 : Vec Ideal S1x7168 .f32)
    (v10 : Vec Ideal S4096x7168 .bf16) (r : Fin 4096) (k : Fin 7168) : EReal :=
  (v10 (ix2 r k) : EReal) + k0_pay4 (F := Ideal) v0 v1 v2 v3 (ix2 r k)

/-- The gains, as one row. -/
def gains (v23 : Vec Ideal S1x7168 .f32) : FVec Ideal S7168 .f32 := fun k => v23 (ix2 0 (k 0))

theorem norm_apply (v0 v1 v2 v3 v10 v23 j) : k0_pay5 (F := Ideal) v0 v1 v2 v3 v10 v23 j
    = OprojSpec.normOf (rows v0 v1 v2 v3 v10 (j 0)) (gains v23) (j 1) := by
  pointwise [k0_pay5, OprojSpec.normOf, OprojSpec.rootOf, rows, gains]

theorem max_apply (v0 v1 v2 v3 v10 v23) (r : Fin 4096) : k0_pay6 (F := Ideal) v0 v1 v2 v3 v10 v23 (ix2 r 0)
    = OprojSpec.maxOf (rows v0 v1 v2 v3 v10 r) (gains v23) := by
  have e : k0_pay6 (F := Ideal) v0 v1 v2 v3 v10 v23 (ix2 r 0) = Finset.univ.fold max (Ideal.ofBits .f32 4286578688#32) fun k : Fin 7168 =>
      (FloatOps.absf (F := Ideal) (φ := .f32) (k0_pay5 v0 v1 v2 v3 v10 v23 (ix2 r k)) : EReal) := by
    pointwise [k0_pay6]
  rw [e]
  exact congrArg (fun f => Finset.univ.fold max (Ideal.ofBits .f32 4286578688#32) f) (funext fun k => congrArg (FloatOps.absf (F := Ideal) (φ := .f32))
    (norm_apply v0 v1 v2 v3 v10 v23 (ix2 r k)))

theorem above_of (w : FVec Ideal S4096x1 .f32) (j) : cmpf .ogt (broadcastTo S4096x253 (exp2 (k0_pay7 (F := Ideal))) broadcasts_S1x253_S4096x253)
      (broadcastTo S4096x253 (mulf w (broadcast S4096x1 (Scalar.ofBits .f32 0x3B124925#32))) broadcasts_S4096x1_S4096x253) j
    = BitVec.ofBool (decide ((w (ix2 (j 0) 0) : EReal) * Ideal.ofBits FTy.f32 991054117#32 <
          FloatOps.exp2 (F := Ideal) (φ := .f32) ((FloatOps.sitofp (F := Ideal) FTy.f32 (BitVec.ofNat 32 ↑(j 1)) : EReal) - Ideal.ofBits FTy.f32 1123811328#32))) := by
  pointwise [k0_pay7]

theorem above_apply (v0 v1 v2 v3 v10 v23 j) : k0_pay8 (F := Ideal) v0 v1 v2 v3 v10 v23 j
    = BitVec.ofBool (decide ((k0_pay6 (F := Ideal) v0 v1 v2 v3 v10 v23 (ix2 (j 0) 0) : EReal) * Ideal.ofBits FTy.f32 991054117#32 <
          FloatOps.exp2 (F := Ideal) (φ := .f32) ((FloatOps.sitofp (F := Ideal) FTy.f32 (BitVec.ofNat 32 ↑(j 1)) : EReal) - Ideal.ofBits FTy.f32 1123811328#32))) := by
  unfold k0_pay8
  exact above_of _ j

theorem least_apply (a : FVec Ideal S4096x1 .f32) (b : IVec S4096x253 1) (c : Ideal .f32) (j) : k0_pay1 (F := Ideal) a k0_pay7 b c j = if (a j : EReal) = 0 then (0 : EReal) else
      Finset.fold min (Ideal.ofBits FTy.f32 2139095040#32) (fun x : Fin 253 => (Scalar.select (b (ix2 (j 0) x))
        ((FloatOps.sitofp (F := Ideal) FTy.f32 (BitVec.ofNat 32 ↑x) : EReal) - Ideal.ofBits FTy.f32 1123811328#32) c : EReal)) Finset.univ := by
  pointwise [k0_pay1, k0_pay7]

theorem expo_apply (v0 v1 v2 v3 v10 v23) (r : Fin 4096) :
    k0_pay1 (F := Ideal) (k0_pay6 v0 v1 v2 v3 v10 v23) k0_pay7 (k0_pay8 v0 v1 v2 v3 v10 v23) (Scalar.ofBits .f32 0x42FC0000#32) (ix2 r 0)
      = (((Quantiser.expo ((k0_pay6 (F := Ideal) v0 v1 v2 v3 v10 v23 (ix2 r 0) : EReal) * Quantiser.recip) : ℤ) : ℝ) : EReal) := by
  rw [least_apply, ← Quantiser.table_eq]
  simp only [above_apply]
  rfl

theorem code_of (h : FVec Ideal S4096x7168 .f32) (a b c d j) : k0_pay2 (F := Ideal) h a b c d j = min (Ideal.ofBits FTy.f32 1138753536#32)
      (max (Ideal.ofBits FTy.f32 3286237184#32) ((h j : EReal) * FloatOps.exp2 (F := Ideal) (φ := .f32) ((0 : EReal) - k0_pay1 (F := Ideal) a b c d (ix2 (j 0) 0)))) := by
  pointwise [k0_pay2]

theorem code_apply (v0 v1 v2 v3 v10 v23 j) :
    k0_pay2 (F := Ideal) (k0_pay5 v0 v1 v2 v3 v10 v23) (k0_pay6 v0 v1 v2 v3 v10 v23) k0_pay7 (k0_pay8 v0 v1 v2 v3 v10 v23) (Scalar.ofBits .f32 0x42FC0000#32) j
      = Quantiser.code (OprojSpec.normOf (rows v0 v1 v2 v3 v10 (j 0)) (gains v23) (j 1)) (OprojSpec.maxOf (rows v0 v1 v2 v3 v10 (j 0)) (gains v23)) := by
  refine (code_of _ _ _ _ _ j).trans ?_
  refine (congrArg (fun x : EReal => min (Ideal.ofBits FTy.f32 1138753536#32)
      (max (Ideal.ofBits FTy.f32 3286237184#32) ((k0_pay5 (F := Ideal) v0 v1 v2 v3 v10 v23 j : EReal) * FloatOps.exp2 (F := Ideal) (φ := .f32) ((0 : EReal) - x)))) (expo_apply v0 v1 v2 v3 v10 v23 (j 0))).trans ?_
  refine (congrArg (fun x : EReal => min (Ideal.ofBits FTy.f32 1138753536#32) (max (Ideal.ofBits FTy.f32 3286237184#32)
    ((k0_pay5 (F := Ideal) v0 v1 v2 v3 v10 v23 j : EReal) * x))) (Quantiser.exp2_neg _)).trans ?_
  exact congrArg₂ Quantiser.code (norm_apply v0 v1 v2 v3 v10 v23 j) (max_apply v0 v1 v2 v3 v10 v23 (j 0))

theorem scale_of (a b c d j) : k0_pay3 (F := Ideal) a b c d j = FloatOps.exp2 (F := Ideal) (φ := .f32) (k0_pay1 (F := Ideal) a b c d (ix2 (j 0) 0)) := by
  pointwise [k0_pay3]

theorem scale_apply (v0 v1 v2 v3 v10 v23 j) :
    k0_pay3 (F := Ideal) (k0_pay6 v0 v1 v2 v3 v10 v23) k0_pay7 (k0_pay8 v0 v1 v2 v3 v10 v23) (Scalar.ofBits .f32 0x42FC0000#32) j
      = Quantiser.scale (OprojSpec.maxOf (rows v0 v1 v2 v3 v10 (j 0)) (gains v23)) := by
  refine (scale_of _ _ _ _ j).trans ?_
  refine (congrArg (FloatOps.exp2 (F := Ideal) (φ := .f32)) (expo_apply v0 v1 v2 v3 v10 v23 (j 0))).trans ?_
  exact (Quantiser.exp2_int _).trans (congrArg Quantiser.scale (max_apply v0 v1 v2 v3 v10 v23 (j 0)))

/-! ## The arrays -/

/-- Every window holds its whole array at the only grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0] :=
  (by decide +kernel : ∀ t : Fin grid0.N, _)

/-- The reference's projection. -/
theorem final6 (c : Dev nD) : (dats m 0 c).arrAt 6 (cfgs 0).N
    = OprojSpec.attn (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  rw [attn_apply]
  pointwise [OprojSpec.attn, OprojSpec.attnAt]
  blk_point [iblk, V, idx t]

/-- The rows to be normalised, from the only point's blocks. -/
theorem rows_apply (c : Dev nD) (t : Fin cfg0.N) :
    rows (iblk m c 0 t) (View.ld (iblk m c 1 t) r0_1) (iblk m c 2 t) (iblk m c 3 t) (iblk m c 4 t) = OprojSpec.rowAt (m ((c : Thread nD τ).loc main_arg0)) (m ((c : Thread nD τ).loc main_arg1)) (m ((c : Thread nD τ).loc main_arg2)) (m ((c : Thread nD τ).loc main_arg3)) (m ((c : Thread nD τ).loc main_arg4)) := by
  funext r k
  unfold rows
  rw [attn_apply]
  pointwise [OprojSpec.rowAt, OprojSpec.attnAt]
  blk_point [iblk, V, idx t]

/-- The gains, from the only point's block. -/
theorem gains_apply (c : Dev nD) (t : Fin cfg0.N) : gains (iblk m c 5 t) = (m ((c : Thread nD τ).loc main_arg5) : FVec Ideal S7168 .f32) := by
  funext k
  unfold gains
  blk_point [iblk, V, idx t]

theorem ld_0 (x : Vec Ideal S4096x7680 .fp8e4m3) : View.ld x r0_0 = x := by
  funext j
  pointwise []

theorem ld_2 (x : Vec Ideal S7680x7168 .fp8e4m3) : View.ld x r0_2 = x := by
  funext j
  pointwise []

theorem ld_3 (x : Vec Ideal S1x7168 .f32) : View.ld x r0_3 = x := by
  funext j
  pointwise []
  have h : (j 0).val < 1 := (j 0).isLt
  refine congrArg x (funext fun a => ?_)
  fin_cases a
  · exact Fin.ext (by show 0 = (j 0).val; omega)
  · rfl

theorem ld_4 (x : Vec Ideal S4096x7168 .bf16) : View.ld x r0_4 = x := by
  funext j
  pointwise []

theorem code_row {v0 v1 v2 v3 v10 v23 R G} (hR : rows v0 v1 v2 v3 v10 = R) (hG : gains v23 = G) (j) :
    k0_pay2 (F := Ideal) (k0_pay5 v0 v1 v2 v3 v10 v23) (k0_pay6 v0 v1 v2 v3 v10 v23) k0_pay7 (k0_pay8 v0 v1 v2 v3 v10 v23) (Scalar.ofBits .f32 0x42FC0000#32) j
      = Quantiser.code (OprojSpec.normOf (R (j 0)) G (j 1)) (OprojSpec.maxOf (R (j 0)) G) := by
  subst hR hG; exact code_apply _ _ _ _ _ _ j

theorem scale_row {v0 v1 v2 v3 v10 v23 R G} (hR : rows v0 v1 v2 v3 v10 = R) (hG : gains v23 = G) (j) :
    k0_pay3 (F := Ideal) (k0_pay6 v0 v1 v2 v3 v10 v23) k0_pay7 (k0_pay8 v0 v1 v2 v3 v10 v23) (Scalar.ofBits .f32 0x42FC0000#32) j
      = Quantiser.scale (OprojSpec.maxOf (R (j 0)) G) := by
  subst hR hG; exact scale_apply _ _ _ _ _ _ j

theorem codes_entry {c2 a2 w s xs g} (j : S4096x7168.Idx) (r : Fin 4096) (k : Fin 7168) (hr : (j 0).val = r.val) (hk : (j 1).val = k.val) :
    Quantiser.code (OprojSpec.normOf (OprojSpec.rowAt c2 a2 w s xs r) g k) (OprojSpec.maxOf (OprojSpec.rowAt c2 a2 w s xs r) g)
      = OprojSpec.codes c2 a2 w s xs g j := by
  obtain rfl : j 0 = r := Fin.ext hr
  obtain rfl : j 1 = k := Fin.ext hk
  rfl

theorem scales_entry {c2 a2 w s xs g} (j : S4096x128.Idx) (r : Fin 4096) (hr : (j 0).val = r.val) :
    Quantiser.scale (OprojSpec.maxOf (OprojSpec.rowAt c2 a2 w s xs r) g) = OprojSpec.scales c2 a2 w s xs g j := by
  obtain rfl : j 0 = r := Fin.ext hr
  rfl

/-- The reference's codes. -/
theorem final7 (c : Dev nD) : (dats m 0 c).arrAt 7 (cfgs 0).N
    = OprojSpec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  unfold k0_pay9 k0_pay10 k0_pay11
  simp only [ld_0, ld_2, ld_3, ld_4]
  refine (code_row (rows_apply m c t) (gains_apply m c t) y).trans ?_
  exact codes_entry _ _ _ (by blk_simp [idx t]) (by blk_simp [idx t])

/-- The reference's scales. -/
theorem final8 (c : Dev nD) : (dats m 0 c).arrAt 8 (cfgs 0).N
    = OprojSpec.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  frame_out
  unfold k0_pay9 k0_pay10 k0_pay11
  simp only [ld_0, ld_2, ld_3, ld_4]
  refine (scale_row (rows_apply m c t) (gains_apply m c t) y).trans ?_
  exact scales_entry _ _ (by blk_simp [idx t])

end Cert.OprojRefIdeal.Result

end
-- ==== Proof.QkvSpec.lean ====
/- What the query, key and value projection with its rotary embedding computes, entry by entry over the extended reals:
   the product of the token codes with the weight codes, rescaled by the token's scale and the output channel's scale
   (`lin`); in the 54 heads of the queries and keys the two halves of a head rotated by the position's angles, and the
   heads of the values as they are (`entry`). -/
module

public import proofs.«01_k».proof.Proof.Gen.QkvIdeal
public import Idealize.ShloMosaic.Lib.Pipeline.ValueKit

@[expose] public section

set_option maxRecDepth 16384

noncomputable section

namespace Cert.QkvSpec

open Idealize.ShloMosaic Idealize.ShloMosaic.TcCoe Idealize.SL.Sem Cert.QkvIdeal

/-- Entry `(r, k)` of the rescaled product. -/
def lin (c1 : FVec Ideal S4096x7168 .fp8e4m3) (a1 : FVec Ideal S4096x128 .f32) (w : FVec Ideal S7168x9600 .fp8e4m3)
    (s : FVec Ideal S9600 .f32) (r : Fin 4096) (k : Fin 9600) : EReal :=
  (∑ x : Fin 7168, (c1 (ix2 r x) : EReal) * w (ix2 x k)) * a1 (ix2 r 0) * s (ix1 k)

/-- Column `k` of a row `u` of the product after the rotation by the row's cosines and sines. The first 8640 columns are
    54 heads of 160; of the others nothing is changed. -/
def rotated (u : Fin 9600 → EReal) (cos sin : Fin 80 → EReal) (k : Fin 9600) : EReal :=
  if h : k.val < 8640 then
    if g : k.val % 160 < 80 then
      u k * cos ⟨k.val % 160, g⟩ - u ⟨k.val + 80, by omega⟩ * sin ⟨k.val % 160, g⟩
    else
      u k * cos ⟨k.val % 160 - 80, by omega⟩ + u ⟨k.val - 80, by omega⟩ * sin ⟨k.val % 160 - 80, by omega⟩
  else u k

/-- The array of queries, keys and values. -/
def qkv (c1 : FVec Ideal S4096x7168 .fp8e4m3) (a1 : FVec Ideal S4096x128 .f32) (w : FVec Ideal S7168x9600 .fp8e4m3)
    (s : FVec Ideal S9600 .f32) (cos sin : FVec Ideal S4096x80 .f32) : FVec Ideal S4096x9600 .bf16 := fun j =>
  rotated (lin c1 a1 w s (j 0)) (fun d => cos (ix2 (j 0) d)) (fun d => sin (ix2 (j 0) d)) (j 1)

theorem qkv_congr {c1 c1' a1 a1' w w' s s' cos cos' sin sin'} (h0 : c1 = c1') (h1 : a1 = a1') (h2 : w = w') (h3 : s = s')
    (h4 : cos = cos') (h5 : sin = sin') : qkv c1 a1 w s cos sin = qkv c1' a1' w' s' cos' sin' := by
  subst h0 h1 h2 h3 h4 h5; rfl

theorem rotated_low (u cos sin) (k : Fin 9600) (d : Fin 80) (k' : Fin 9600) (h : k.val < 8640) (hd : k.val % 160 = d.val)
    (hk : k'.val = k.val + 80) : rotated u cos sin k = u k * cos d - u k' * sin d := by
  have g : k.val % 160 < 80 := hd ▸ d.isLt
  unfold rotated
  rw [dif_pos h, dif_pos g]
  rw [show (⟨k.val % 160, g⟩ : Fin 80) = d from Fin.ext hd, show (⟨k.val + 80, by omega⟩ : Fin 9600) = k' from Fin.ext hk.symm]

theorem rotated_high (u cos sin) (k : Fin 9600) (d : Fin 80) (k' : Fin 9600) (h : k.val < 8640) (hd : k.val % 160 = d.val + 80)
    (hk : k'.val + 80 = k.val) : rotated u cos sin k = u k * cos d + u k' * sin d := by
  have g : ¬ k.val % 160 < 80 := by omega
  unfold rotated
  rw [dif_pos h, dif_neg g]
  rw [show (⟨k.val % 160 - 80, by omega⟩ : Fin 80) = d from Fin.ext (by simp only; omega),
    show (⟨k.val - 80, by omega⟩ : Fin 9600) = k' from Fin.ext (by simp only; omega)]

theorem rotated_value (u cos sin) (k : Fin 9600) (h : ¬ k.val < 8640) : rotated u cos sin k = u k := by
  unfold rotated
  rw [dif_neg h]

/-- Adding a product with a negated sine is subtracting the product. -/
theorem add_mul_neg (a b s : EReal) : a + b * (0 - s) = a - b * s := by
  rw [sub_eq_add_neg 0 s, zero_add, mul_neg, ← sub_eq_add_neg]

end Cert.QkvSpec

end
-- ==== Proof.QkvKernel.lean ====
/- The result array of the tiled query, key and value projection: a block is written as twelve heads of 160 columns, each
   rotated unless its first column lies past the queries and keys. -/
module

public import proofs.«01_k».proof.Proof.Gen.QkvIdeal.Frame
public import proofs.«01_k».proof.Proof.QkvSpec
public import Idealize.ShloMosaic.Lib.Pipeline.ValueKit
public import Idealize.ShloMosaic.Lib.Pipeline.ReadBack

@[expose] public section

set_option maxRecDepth 16384

noncomputable section

namespace Cert.QkvIdeal.Result

open Idealize.ShloMosaic Idealize.ShloMosaic.TcCoe Idealize.SL.Sem
open Idealize.ShloMosaic.Pipeline (Dat)
open Cert.QkvIdeal Cert.QkvIdeal.Gen

/-- Column `d` of the head that begins at column `o` of a block: `U` the rescaled product, `C` and `S` the cosines and signed
    sines repeated over a head. `ow` is `o` as a machine word and `b` the block's column number. -/
def headVal (ow : BitVec 32) (o : ℕ) (ho : o ≤ 1760) (b : BitVec 32) (U : FVec Ideal S512x1920 .f32) (C S : FVec Ideal S512x160 .f32)
    (y : Fin 512) (d : Fin 160) : EReal :=
  Scalar.select (Scalar.cmpi CmpIPredicate.sge (Scalar.addi (Scalar.muli b 1920#32) ow) 8640#32) (U (ix2 y ⟨o + d.val, by omega⟩) : EReal)
    (U (ix2 y ⟨o + d.val, by omega⟩) * C (ix2 y d) +
      (if h : d.val < 80 then (U (ix2 y ⟨o + (80 + d.val), by omega⟩) : EReal) else U (ix2 y ⟨o + (d.val - 80), by omega⟩)) * S (ix2 y d))

theorem pay1_apply (b : BitVec 32) (U C S) (j : S512x160.Idx) :
    k0_pay1 (F := Ideal) b U C S j = headVal 1760#32 1760 (by decide) b U C S (j 0) (j 1) := by
  pointwise [k0_pay1, headVal]

theorem pay9_apply (b : BitVec 32) (U C S) (j : S512x160.Idx) :
    k0_pay9 (F := Ideal) b U C S j = headVal 320#32 320 (by decide) b U C S (j 0) (j 1) := by
  pointwise [k0_pay9, headVal]

theorem pay10_apply (b : BitVec 32) (U C S) (j : S512x160.Idx) :
    k0_pay10 (F := Ideal) b U C S j = headVal 480#32 480 (by decide) b U C S (j 0) (j 1) := by
  pointwise [k0_pay10, headVal]

theorem pay14_apply (b : BitVec 32) (U C S) (j : S512x160.Idx) :
    k0_pay14 (F := Ideal) b U C S j = headVal 800#32 800 (by decide) b U C S (j 0) (j 1) := by
  pointwise [k0_pay14, headVal]

theorem pay15_apply (b : BitVec 32) (U C S) (j : S512x160.Idx) :
    k0_pay15 (F := Ideal) b U C S j = headVal 960#32 960 (by decide) b U C S (j 0) (j 1) := by
  pointwise [k0_pay15, headVal]

theorem pay16_apply (b : BitVec 32) (U C S) (j : S512x160.Idx) :
    k0_pay16 (F := Ideal) b U C S j = headVal 1120#32 1120 (by decide) b U C S (j 0) (j 1) := by
  pointwise [k0_pay16, headVal]

theorem pay17_apply (b : BitVec 32) (U C S) (j : S512x160.Idx) :
    k0_pay17 (F := Ideal) b U C S j = headVal 1280#32 1280 (by decide) b U C S (j 0) (j 1) := by
  pointwise [k0_pay17, headVal]

theorem pay18_apply (b : BitVec 32) (U C S) (j : S512x160.Idx) :
    k0_pay18 (F := Ideal) b U C S j = headVal 1440#32 1440 (by decide) b U C S (j 0) (j 1) := by
  pointwise [k0_pay18, headVal]

theorem pay19_apply (b : BitVec 32) (U C S) (j : S512x160.Idx) :
    k0_pay19 (F := Ideal) b U C S j = headVal 1600#32 1600 (by decide) b U C S (j 0) (j 1) := by
  pointwise [k0_pay19, headVal]

theorem pay5_apply (i : grid0.Coords) (v0 v1 v3 v6 v10 v11) (j : S512x160.Idx) :
    k0_pay5 (F := Ideal) i v0 v1 v3 v6 v10 v11 j
      = headVal 0#32 0 (by decide) (BitVec.ofNat 32 (i 1).val) (k0_pay2 v0 v1 v3 v6) (k0_pay3 v10) (k0_pay4 v11) (j 0) (j 1) := by
  pointwise [k0_pay5, headVal]

theorem pay8_apply (b : BitVec 32) (v0 v1 v3 v6 v10 v11) (j : S512x160.Idx) :
    k0_pay8 (F := Ideal) (k0_pay6 v0 v1 v3 v6) (k0_pay7 v0 v1 v3 v6 v10 v11) (Scalar.muli b 1920#32) j
      = headVal 160#32 160 (by decide) b (k0_pay2 v0 v1 v3 v6) (k0_pay3 v10) (k0_pay4 v11) (j 0) (j 1) := by
  pointwise [k0_pay8, k0_pay6, k0_pay7, headVal]

theorem pay13_apply (b : BitVec 32) (U C S) (j : S512x160.Idx) :
    k0_pay13 (F := Ideal) (k0_pay11 U) (k0_pay12 U C S) (Scalar.addi (Scalar.muli b 1920#32) 640#32) 8640#32 j
      = headVal 640#32 640 (by decide) b U C S (j 0) (j 1) := by
  pointwise [k0_pay13, k0_pay11, k0_pay12, headVal]

theorem pay2_apply (v0 v1 v3 v6) (y : Fin 512) (z : Fin 1920) : k0_pay2 (F := Ideal) v0 v1 v3 v6 (ix2 y z)
    = (∑ k : Fin 7168, (v0 (ix2 y k) : EReal) * v1 (ix2 k z)) * v3 (ix2 y 0) * v6 (ix2 0 z) := by
  pointwise [k0_pay2]

theorem pay3_low (v) (y : Fin 512) (d : Fin 160) (e : Fin 80) (h : d.val = e.val) : k0_pay3 (F := Ideal) v (ix2 y d) = v (ix2 y e) := by
  have hd : d.val < 80 := h ▸ e.isLt
  pointwise [k0_pay3, hd]
  blk_point [h]

theorem pay3_high (v) (y : Fin 512) (d : Fin 160) (e : Fin 80) (h : d.val = e.val + 80) : k0_pay3 (F := Ideal) v (ix2 y d) = v (ix2 y e) := by
  have hd : ¬ d.val < 80 := by omega
  pointwise [k0_pay3, hd]
  blk_point [h]

theorem pay4_low (v) (y : Fin 512) (d : Fin 160) (e : Fin 80) (h : d.val = e.val) : k0_pay4 (F := Ideal) v (ix2 y d) = (0 : EReal) - v (ix2 y e) := by
  have hd : d.val < 80 := h ▸ e.isLt
  pointwise [k0_pay4, hd]
  blk_point [h]

theorem pay4_high (v) (y : Fin 512) (d : Fin 160) (e : Fin 80) (h : d.val = e.val + 80) : k0_pay4 (F := Ideal) v (ix2 y d) = v (ix2 y e) := by
  have hd : ¬ d.val < 80 := by omega
  pointwise [k0_pay4, hd]
  blk_point [h]

/-- The comparison of a head's first column with the queries' and keys' width, in numbers. -/
theorem cmp_eq : ∀ (j : Fin 5) (h : Fin 12), Scalar.cmpi CmpIPredicate.sge (Scalar.addi (Scalar.muli (BitVec.ofNat 32 j.val) 1920#32) (BitVec.ofNat 32 (160 * h.val))) 8640#32
    = if 1920 * j.val + 160 * h.val < 8640 then 0#1 else 1#1 := by decide +kernel

/-- A head's column from rows given in the arrays' coordinates. -/
theorem head_rotated (u : Fin 9600 → EReal) (cos sin : Fin 80 → EReal) (j : Fin 5) (n : Fin 12) (ow : BitVec 32) (o : ℕ) (ho : o ≤ 1760)
    (hw : ow = BitVec.ofNat 32 (160 * n.val)) (hn : o = 160 * n.val) (U : FVec Ideal S512x1920 .f32) (v10 v11 : Vec Ideal S512x80 .f32) (y : Fin 512) (d : Fin 160)
    (hU : ∀ z : Fin 1920, (U (ix2 y z) : EReal) = u ⟨1920 * j.val + z.val, by omega⟩)
    (hC : ∀ e : Fin 80, (v10 (ix2 y e) : EReal) = cos e) (hS : ∀ e : Fin 80, (v11 (ix2 y e) : EReal) = sin e)
    (k : Fin 9600) (hk : k.val = 1920 * j.val + (o + d.val)) :
    headVal ow o ho (BitVec.ofNat 32 j.val) U (k0_pay3 v10) (k0_pay4 v11) y d = QkvSpec.rotated u cos sin k := by
  subst hw hn
  unfold headVal
  rw [cmp_eq, hU, show (⟨1920 * j.val + (160 * n.val + d.val), by omega⟩ : Fin 9600) = k from Fin.ext hk.symm]
  by_cases hq : 1920 * j.val + 160 * n.val < 8640
  · rw [if_pos hq]
    show _ + _ = _
    by_cases hd : d.val < 80
    · rw [dif_pos hd, pay3_low v10 y d ⟨d.val, hd⟩ rfl, pay4_low v11 y d ⟨d.val, hd⟩ rfl, hC, hS, hU, QkvSpec.add_mul_neg]
      exact (QkvSpec.rotated_low u cos sin k ⟨d.val, hd⟩ _ (by omega) (by simp only; omega) (by simp only; omega)).symm
    · rw [dif_neg hd, pay3_high v10 y d ⟨d.val - 80, by omega⟩ (by simp only; omega), pay4_high v11 y d ⟨d.val - 80, by omega⟩ (by simp only; omega), hC, hS, hU]
      exact (QkvSpec.rotated_high u cos sin k ⟨d.val - 80, by omega⟩ _ (by omega) (by simp only; omega) (by simp only; omega)).symm
  · rw [if_neg hq]
    exact (QkvSpec.rotated_value u cos sin k (by omega)).symm

variable (m : (ℓ : Loc nD τ sig) → Buf (Elt Ideal) ℓ)

/-- Which block each window holds at grid point `t`. -/
theorem idx : ∀ t : Fin cfg0.N, win0_0.index t = ![t.val / 5, 0] ∧ win0_1.index t = ![t.val / 5, 0]
    ∧ win0_2.index t = ![0, t.val % 5] ∧ win0_3.index t = ![0, t.val % 5]
    ∧ win0_4.index t = ![t.val / 5, 0] ∧ win0_5.index t = ![t.val / 5, 0] ∧ win0_6.index t = ![t.val / 5, t.val % 5] :=
  (by decide +kernel : ∀ t : Fin grid0.N, _)

/-- A point's column number. -/
theorem col : ∀ t : Fin cfg0.N, (grid0.coords t 1).val = t.val % 5 :=
  (by decide +kernel : ∀ t : Fin grid0.N, _)

theorem row_lt (t : Fin cfg0.N) (y : Fin 512) : 512 * (t.val / 5) + y.val < 4096 := by
  have := lt_of_lt_of_eq t.isLt N_0
  omega

/-- An entry of the rescaled product, from the blocks of a point. -/
theorem lin_apply (c : Dev nD) (t : Fin cfg0.N) (y : Fin 512) (z : Fin 1920) :
    k0_pay20 (grid0.coords t) (iblk m c 0 t) (iblk m c 1 t) (iblk m c 2 t) (iblk m c 3 t) (iblk m c 4 t) (iblk m c 5 t) (ix2 y z)
      = QkvSpec.lin (m ((c : Thread nD τ).loc main_arg0)) (m ((c : Thread nD τ).loc main_arg1)) (m ((c : Thread nD τ).loc main_arg2)) (m ((c : Thread nD τ).loc main_arg3))
        ⟨512 * (t.val / 5) + y.val, by have := lt_of_lt_of_eq t.isLt N_0; omega⟩ ⟨1920 * (t.val % 5) + z.val, by omega⟩ := by
  unfold k0_pay20
  rw [pay2_apply]
  obtain ⟨h0, h1, h2, h3, h4, h5, h6⟩ := idx t
  pointwise [QkvSpec.lin]
  blk_point [iblk, V, h0, h1, h2, h3]

/-- A cosine, from the block of a point. -/
theorem cos_apply (c : Dev nD) (t : Fin cfg0.N) (y : Fin 512) (e : Fin 80) :
    (View.ld (iblk m c 4 t : Vec Ideal S512x80 .f32) r0_4 : Vec Ideal S512x80 .f32) (ix2 y e)
      = (m ((c : Thread nD τ).loc main_arg4) : FVec Ideal S4096x80 .f32) (ix2 ⟨512 * (t.val / 5) + y.val, by have := lt_of_lt_of_eq t.isLt N_0; omega⟩ e) := by
  obtain ⟨h0, h1, h2, h3, h4, h5, h6⟩ := idx t
  pointwise
  blk_point [iblk, V, h4]

/-- A sine, from the block of a point. -/
theorem sin_apply (c : Dev nD) (t : Fin cfg0.N) (y : Fin 512) (e : Fin 80) :
    (View.ld (iblk m c 5 t : Vec Ideal S512x80 .f32) r0_4 : Vec Ideal S512x80 .f32) (ix2 y e)
      = (m ((c : Thread nD τ).loc main_arg5) : FVec Ideal S4096x80 .f32) (ix2 ⟨512 * (t.val / 5) + y.val, by have := lt_of_lt_of_eq t.isLt N_0; omega⟩ e) := by
  obtain ⟨h0, h1, h2, h3, h4, h5, h6⟩ := idx t
  pointwise
  blk_point [iblk, V, h5]

/-- A column of head `n` of a point's block is a column of the rotated row it lands on. -/
theorem point (c : Dev nD) (t : Fin cfg0.N) (n : Fin 12) (ow : BitVec 32) (o : ℕ) (ho : o ≤ 1760) (hw : ow = BitVec.ofNat 32 (160 * n.val)) (hn : o = 160 * n.val)
    (y : Fin 512) (d : Fin 160) (r : Fin 4096) (k : Fin 9600) (hr : r.val = 512 * (t.val / 5) + y.val) (hk : k.val = 1920 * (t.val % 5) + (o + d.val)) :
    headVal ow o ho (BitVec.ofNat 32 (grid0.coords t 1).val)
        (k0_pay20 (grid0.coords t) (iblk m c 0 t) (iblk m c 1 t) (iblk m c 2 t) (iblk m c 3 t) (iblk m c 4 t) (iblk m c 5 t))
        (k0_pay21 (grid0.coords t) (iblk m c 0 t) (iblk m c 1 t) (iblk m c 2 t) (iblk m c 3 t) (iblk m c 4 t) (iblk m c 5 t))
        (k0_pay22 (grid0.coords t) (iblk m c 0 t) (iblk m c 1 t) (iblk m c 2 t) (iblk m c 3 t) (iblk m c 4 t) (iblk m c 5 t)) y d
      = QkvSpec.rotated (QkvSpec.lin (m ((c : Thread nD τ).loc main_arg0)) (m ((c : Thread nD τ).loc main_arg1)) (m ((c : Thread nD τ).loc main_arg2)) (m ((c : Thread nD τ).loc main_arg3)) r)
        (fun e => (m ((c : Thread nD τ).loc main_arg4) : FVec Ideal S4096x80 .f32) (ix2 r e)) (fun e => (m ((c : Thread nD τ).loc main_arg5) : FVec Ideal S4096x80 .f32) (ix2 r e)) k := by
  have hR : r = ⟨512 * (t.val / 5) + y.val, row_lt t y⟩ := Fin.ext hr
  subst hR
  rw [col t]
  exact head_rotated _ _ _ ⟨t.val % 5, Nat.mod_lt _ (by decide)⟩ n ow o ho hw hn _ _ _ y d (lin_apply m c t y) (cos_apply m c t y) (sin_apply m c t y) k hk

set_option maxHeartbeats 1600000 in
/-- The array of queries, keys and values after the run. -/
theorem final6 (c : Dev nD) : (dats m 0 c).arrAt 6 (cfgs 0).N
    = QkvSpec.qkv (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  blk_simp
  rw [after0_6]
  have e6 := (idx t).2.2.2.2.2.2
  unfold out0_6
  canon_tiles x h
  · exact (pay1_apply _ _ _ _ x).trans (point m c t 11 _ 1760 (by decide) rfl rfl (x 0) (x 1) _ _ (by blk_simp [e6]; omega) (by blk_simp [e6]; omega))
  · exact (pay19_apply _ _ _ _ x).trans (point m c t 10 _ 1600 (by decide) rfl rfl (x 0) (x 1) _ _ (by blk_simp [e6]; omega) (by blk_simp [e6]; omega))
  · exact (pay18_apply _ _ _ _ x).trans (point m c t 9 _ 1440 (by decide) rfl rfl (x 0) (x 1) _ _ (by blk_simp [e6]; omega) (by blk_simp [e6]; omega))
  · exact (pay17_apply _ _ _ _ x).trans (point m c t 8 _ 1280 (by decide) rfl rfl (x 0) (x 1) _ _ (by blk_simp [e6]; omega) (by blk_simp [e6]; omega))
  · exact (pay16_apply _ _ _ _ x).trans (point m c t 7 _ 1120 (by decide) rfl rfl (x 0) (x 1) _ _ (by blk_simp [e6]; omega) (by blk_simp [e6]; omega))
  · exact (pay15_apply _ _ _ _ x).trans (point m c t 6 _ 960 (by decide) rfl rfl (x 0) (x 1) _ _ (by blk_simp [e6]; omega) (by blk_simp [e6]; omega))
  · exact (pay14_apply _ _ _ _ x).trans (point m c t 5 _ 800 (by decide) rfl rfl (x 0) (x 1) _ _ (by blk_simp [e6]; omega) (by blk_simp [e6]; omega))
  · exact (pay13_apply _ _ _ _ x).trans (point m c t 4 _ 640 (by decide) rfl rfl (x 0) (x 1) _ _ (by blk_simp [e6]; omega) (by blk_simp [e6]; omega))
  · exact (pay10_apply _ _ _ _ x).trans (point m c t 3 _ 480 (by decide) rfl rfl (x 0) (x 1) _ _ (by blk_simp [e6]; omega) (by blk_simp [e6]; omega))
  · exact (pay9_apply _ _ _ _ x).trans (point m c t 2 _ 320 (by decide) rfl rfl (x 0) (x 1) _ _ (by blk_simp [e6]; omega) (by blk_simp [e6]; omega))
  · exact (pay8_apply _ _ _ _ _ _ _ x).trans (point m c t 1 _ 160 (by decide) rfl rfl (x 0) (x 1) _ _ (by blk_simp [e6]; omega) (by blk_simp [e6]; omega))
  · exact (pay5_apply _ _ _ _ _ _ _ x).trans (point m c t 0 _ 0 (by decide) rfl rfl (x 0) (x 1) _ _ (by blk_simp [e6]; omega) (by blk_simp [e6]; omega))

end Cert.QkvIdeal.Result

end
-- ==== Proof.QkvRefValue.lean ====
/- The result array of the reference's query, key and value projection: the rescaled product over one grid point whose
   blocks are the whole arrays, then the rotation of the queries and keys by whole-array operations. -/
module

public import proofs.«01_k».proof.Proof.Gen.QkvRefIdeal.Frame
public import proofs.«01_k».proof.Proof.QkvSpec
public import Idealize.ShloMosaic.Lib.Pipeline.ValueKit
public import Idealize.ShloMosaic.Lib.Pipeline.ReadBack

@[expose] public section

set_option maxRecDepth 16384

noncomputable section

namespace Cert.QkvRefIdeal.Result

open Idealize.ShloMosaic Idealize.ShloMosaic.TcCoe Idealize.SL.Sem
open Idealize.ShloMosaic.Pipeline (Dat)
open Cert.QkvRefIdeal Cert.QkvRefIdeal.Gen

variable (m : (ℓ : Loc nD τ sig) → Buf (Elt Ideal) ℓ)

/-- Every window holds its whole array at the only grid point. -/
theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

/-- The channels' scales as the region finds them: one row. -/
theorem scales_entry (c : Dev nD) : V m c main_v0 = shapeCast S1x9600 (m ((c : Thread nD τ).loc main_arg3) : Vec Ideal S9600 .f32) shapeCasts_S9600_S1x9600 := by
  unfold V V0
  simp only [List.flatten_cons, List.flatten_nil, List.append_nil, hostOps0]
  after_results
  all_goals rfl

theorem row_apply (s : Vec Ideal S9600 .f32) (j : S1x9600.Idx) : shapeCast S1x9600 s shapeCasts_S9600_S1x9600 j = s (ix1 (j 1)) := by
  pointwise

theorem scale_apply (c : Dev nD) (j : S1x9600.Idx) : (V m c main_v0 : Vec Ideal S1x9600 .f32) j = (m ((c : Thread nD τ).loc main_arg3) : Vec Ideal S9600 .f32) (ix1 (j 1)) :=
  (congrFun (scales_entry m c) j).trans (row_apply _ j)

/-- The reference's rescaled product. -/
theorem final4 (c : Dev nD) : (dats m 0 c).arrAt 4 (cfgs 0).N
    = (fun j : S4096x9600.Idx => QkvSpec.lin (m ((c : Thread nD τ).loc main_arg0)) (m ((c : Thread nD τ).loc main_arg1))
        (m ((c : Thread nD τ).loc main_arg2)) (m ((c : Thread nD τ).loc main_arg3)) (j 0) (j 1) : FVec Ideal S4096x9600 .f32) := by
  refine (dats m 0 c).arrAt_eq_of_covers 4 _ (by decide +kernel) fun t _ y => ?_
  blk_simp
  rw [after0_4]
  frame_out
  pointwise [k0_pay1, QkvSpec.lin]
  have e3 := scale_apply m c
  blk_point [iblk, e3, V_main_arg0, V_main_arg1, V_main_arg2, idx t]

/-- The queries' and keys' columns of the product, head by head. -/
def heads (u : Vec Ideal S4096x9600 .f32) : Vec Ideal S4096x54x160 .f32 :=
  shapeCast S4096x54x160 (extractStridedSlice S4096x8640 ![0, 0] u slices_S4096x9600_S4096x8640_0_0) shapeCasts_S4096x8640_S4096x54x160

/-- One position's cosines or sines for every head. -/
def spread (v : Vec Ideal S4096x80 .f32) : Vec Ideal S4096x54x80 .f32 :=
  broadcastInDim S4096x54x80 ![0, 1, 2] bcast_S4096x1x80_S4096x54x80_0_1_2 (broadcastInDim S4096x1x80 ![0, 2] bcast_S4096x80_S4096x1x80_0_2 v)

/-- The heads' first and second halves. -/
def half0 (u : Vec Ideal S4096x9600 .f32) : FVec Ideal S4096x54x80 .f32 :=
  extractStridedSlice S4096x54x80 ![0, 0, 0] (heads u) slices_S4096x54x160_S4096x54x80_0_0_0
def half1 (u : Vec Ideal S4096x9600 .f32) : FVec Ideal S4096x54x80 .f32 :=
  extractStridedSlice S4096x54x80 ![0, 0, 80] (heads u) slices_S4096x54x160_S4096x54x80_0_0_80

/-- The rotated heads. -/
def turned (u : Vec Ideal S4096x9600 .f32) (cos sin : Vec Ideal S4096x80 .f32) : FVec Ideal S4096x54x160 .f32 :=
  concatenate S4096x54x160 2 [⟨S4096x54x80, (subf (mulf (half0 u) (spread cos)) (mulf (half1 u) (spread sin)) : FVec Ideal S4096x54x80 .f32)⟩,
    ⟨S4096x54x80, (addf (mulf (half1 u) (spread cos)) (mulf (half0 u) (spread sin)) : FVec Ideal S4096x54x80 .f32)⟩] concatenates_S4096x54x80_S4096x54x80_S4096x54x160_d2

/-- The rotated queries and keys beside the values. -/
def joined (u : Vec Ideal S4096x9600 .f32) (cos sin : Vec Ideal S4096x80 .f32) : FVec Ideal S4096x9600 .bf16 :=
  concatenate S4096x9600 1 [⟨S4096x8640, (truncf .bf16 (shapeCast S4096x8640 (turned u cos sin) shapeCasts_S4096x54x160_S4096x8640 : FVec Ideal S4096x8640 .f32) bitsLt_bf16_f32 : FVec Ideal S4096x8640 .bf16)⟩,
    ⟨S4096x960, (truncf .bf16 (extractStridedSlice S4096x960 ![0, 8640] u slices_S4096x9600_S4096x960_0_8640 : FVec Ideal S4096x960 .f32) bitsLt_bf16_f32 : FVec Ideal S4096x960 .bf16)⟩] concatenates_S4096x8640_S4096x960_S4096x9600_d1

theorem heads_apply (u) (r : Fin 4096) (h : Fin 54) (d : Fin 160) : heads u (ix3 r h d) = u (ix2 r ⟨h.val * 160 + d.val, by omega⟩) := by
  pointwise [heads]

theorem turned_apply (u cos sin) (r : Fin 4096) (h : Fin 54) (d : Fin 160) : turned u cos sin (ix3 r h d)
    = QkvSpec.rotated (fun k => u (ix2 r k)) (fun e => cos (ix2 r e)) (fun e => sin (ix2 r e)) ⟨h.val * 160 + d.val, by omega⟩ := by
  by_cases hd : d.val < 80
  · rw [QkvSpec.rotated_low _ _ _ _ ⟨d.val, hd⟩ ⟨h.val * 160 + (80 + d.val), by omega⟩ (by simp only; omega) (by simp only; omega) (by simp only; omega)]
    pointwise [turned, half0, half1, spread, heads_apply, hd]
  · rw [QkvSpec.rotated_high _ _ _ _ ⟨d.val - 80, by omega⟩ ⟨h.val * 160 + (d.val - 80), by omega⟩ (by simp only; omega) (by simp only; omega) (by simp only; omega)]
    pointwise [turned, half0, half1, spread, heads_apply, hd]
    blk_point []

/-- The joined array holds the rotated rows. -/
theorem joined_apply (u cos sin) (r : Fin 4096) (k : Fin 9600) : joined u cos sin (ix2 r k)
    = QkvSpec.rotated (fun k => u (ix2 r k)) (fun e => cos (ix2 r e)) (fun e => sin (ix2 r e)) k := by
  by_cases hk : k.val < 8640
  · have e := turned_apply u cos sin r ⟨k.val / 160, by omega⟩ ⟨k.val % 160, Nat.mod_lt _ (by decide)⟩
    rw [show (⟨k.val / 160 * 160 + k.val % 160, by omega⟩ : Fin 9600) = k from Fin.ext (Nat.div_add_mod' _ _)] at e
    rw [← e]
    pointwise [joined, hk]
  · rw [QkvSpec.rotated_value _ _ _ _ hk]
    pointwise [joined, hk]
    blk_point []

/-- What the operations after the region make of the arrays they find. -/
theorem tail_eq (W : Valuation τ sig (Elt Ideal)) : StableHlo.after hostOps1 W (Proc.devRef .tc main_v23)
    = joined (W (Proc.devRef .tc main_v1)) (W (Proc.devRef .tc main_arg4)) (W (Proc.devRef .tc main_arg5)) := by
  unfold hostOps1
  after_results
  all_goals rfl

/-- The reference's array of queries, keys and values. -/
theorem result (c : Dev nD) : Pipeline.afterTail₀ cfgs (dats m) 0 (V0 m) [hostOps1] c main_v23
    = QkvSpec.qkv (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  have e1 : Pipeline.withArrays (cfgs 0).spec c (V0 m c) (fun w => (dats m 0 c).arrAt w (cfgs 0).N) (Proc.devRef .tc main_v1)
      = (dats m 0 c).arrAt 4 (cfgs 0).N := Pipeline.withArrays_arr spec0 (by decide) c (V0 m c) (fun w => (dats m 0 c).arrAt w (cfgs 0).N) 4
  have e4 : V0 m c (Proc.devRef .tc main_arg4) = m ((c : Thread nD τ).loc main_arg4) := V_main_arg4 m c
  have e5 : V0 m c (Proc.devRef .tc main_arg5) = m ((c : Thread nD τ).loc main_arg5) := V_main_arg5 m c
  unfold Pipeline.afterTail₀
  simp only [List.flatten_cons, List.flatten_nil, List.append_nil]
  rw [tail_eq, Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5)), e1, e4, e5, final4]
  refine funext fun (j : S4096x9600.Idx) => ?_
  have ej : j = ix2 (j 0) (j 1) := by blk_ext
  exact (congrArg _ ej).trans (joined_apply _ _ _ (j 0) (j 1))

end Cert.QkvRefIdeal.Result

end
-- ==== Proof.lean ====
/- The certificate: every program ends with its arguments unchanged and its semaphores at zero, the kernels over the
   extended reals are the printed kernels read there, and each of them leaves the arrays its reference leaves. -/
module

public import proofs.«01_k».proof.Defs
public import proofs.«01_k».proof.Proof.Gen.Down.Frame
public import proofs.«01_k».proof.Proof.DownKernel
public import proofs.«01_k».proof.Proof.DownRefValue
public import proofs.«01_k».proof.Proof.GateupBitsRun
public import proofs.«01_k».proof.Proof.GateupKernel
public import proofs.«01_k».proof.Proof.GateupRefValue
public import proofs.«01_k».proof.Proof.OprojBitsRun
public import proofs.«01_k».proof.Proof.OprojKernel
public import proofs.«01_k».proof.Proof.OprojRefValue
public import proofs.«01_k».proof.Proof.Gen.Qkv.Frame
public import proofs.«01_k».proof.Proof.QkvKernel
public import proofs.«01_k».proof.Proof.QkvRefValue
public import Idealize.ShloMosaic.Adequacy
public import Idealize.ShloMosaic.Init
public import Idealize.ShloMosaic.Lib.Claim

@[expose] public section

noncomputable section

namespace Cert.Proof

open Idealize.ShloMosaic Idealize.SL.Sem

theorem algebraic_down : Cert.algebraic_DownIdeal_DownRefIdeal := by
  pair_intro
  · run_from Cert.DownIdeal.Gen.run_main m g
  · run_from Cert.DownRefIdeal.Gen.run_main m' g'
    · rw [Cert.DownRefIdeal.Result.final7 m' c, Cert.DownIdeal.Result.final7 m c]
      obtain ⟨h0, h1, h2, h3, h4, h5, h6⟩ := hagree c
      exact DownSpec.delta_congr h0 h1 h2 h3 h4
    · rw [Cert.DownRefIdeal.Result.final8 m' c, Cert.DownIdeal.Result.final8 m c]
      obtain ⟨h0, h1, h2, h3, h4, h5, h6⟩ := hagree c
      exact DownSpec.rows_congr h0 h1 h2 h3 h4 h5 h6

theorem algebraic_gateup : Cert.algebraic_GateupIdeal_GateupRefIdeal := by
  pair_intro
  · run_from Cert.GateupIdeal.Result.run_main m g
  · run_from Cert.GateupRefIdeal.Gen.run_main m' g'
    · rw [Cert.GateupRefIdeal.Result.final6 m' c, Cert.GateupIdeal.Result.final6 m c]
      obtain ⟨h0, h1, h2, h3, h4, h5⟩ := hagree c
      exact GateupSpec.codes_congr h0 h1 h2 h3 h4 h5
    · rw [Cert.GateupRefIdeal.Result.final7 m' c, Cert.GateupIdeal.Result.final7 m c]
      obtain ⟨h0, h1, h2, h3, h4, h5⟩ := hagree c
      exact GateupSpec.scales_congr h0 h1 h2 h3 h4 h5

theorem preserves_oproj : Cert.preserves_Oproj_OprojIdeal :=
  IdealRules.named_const.statement Cert.OprojIdeal.κ "inv_width" .f32 0x39124925#32 ((1 / 7168 : ℝ) : EReal) rfl

theorem algebraic_oproj : Cert.algebraic_OprojIdeal_OprojRefIdeal := by
  pair_intro
  · run_from Cert.OprojIdeal.Result.run_main m g
  · run_from Cert.OprojRefIdeal.Gen.run_main m' g'
    · rw [Cert.OprojRefIdeal.Result.final6 m' c, Cert.OprojIdeal.Result.final6 m c]
      obtain ⟨h0, h1, h2, h3, h4, h5⟩ := hagree c
      exact OprojSpec.attn_congr h0 h1 h2 h3
    · rw [Cert.OprojRefIdeal.Result.final7 m' c, Cert.OprojIdeal.Result.final7 m c]
      obtain ⟨h0, h1, h2, h3, h4, h5⟩ := hagree c
      exact OprojSpec.codes_congr h0 h1 h2 h3 h4 h5
    · rw [Cert.OprojRefIdeal.Result.final8 m' c, Cert.OprojIdeal.Result.final8 m c]
      obtain ⟨h0, h1, h2, h3, h4, h5⟩ := hagree c
      exact OprojSpec.scales_congr h0 h1 h2 h3 h4 h5

theorem algebraic_qkv : Cert.algebraic_QkvIdeal_QkvRefIdeal := by
  pair_intro
  · run_from Cert.QkvIdeal.Gen.run_main m g
  · run_from Cert.QkvRefIdeal.Gen.run_main m' g'
    · rw [Cert.QkvRefIdeal.Result.result m' c, Cert.QkvIdeal.Result.final6 m c]
      obtain ⟨h0, h1, h2, h3, h4, h5⟩ := hagree c
      exact QkvSpec.qkv_congr h0 h1 h2 h3 h4 h5
    · exact (Cert.QkvRefIdeal.Gen.W_main_arg3 m' (Cert.QkvRefIdeal.Gen.dats m') c).trans (hagree c).2.2.2.1
    · exact (Cert.QkvRefIdeal.Gen.W_main_arg4 m' (Cert.QkvRefIdeal.Gen.dats m') c).trans (hagree c).2.2.2.2.1
    · exact (Cert.QkvRefIdeal.Gen.W_main_arg5 m' (Cert.QkvRefIdeal.Gen.dats m') c).trans (hagree c).2.2.2.2.2

theorem claim : Cert.Claim := ⟨Cert.Down.Gen.facts, Cert.DownIdeal.Gen.facts, Cert.DownRefIdeal.Gen.facts,
  Cert.Gateup.Gen.facts, Cert.GateupIdeal.Gen.facts, Cert.GateupRefIdeal.Gen.facts,
  Cert.Oproj.Gen.facts, Cert.OprojIdeal.Gen.facts, Cert.OprojRefIdeal.Gen.facts,
  Cert.Qkv.Gen.facts, Cert.QkvIdeal.Gen.facts, Cert.QkvRefIdeal.Gen.facts,
  fun m ρ _ => Cert.Down.Gen.frame m ρ, fun m ρ _ => Cert.DownIdeal.Gen.frame m ρ,
  fun m ρ _ => Cert.DownRefIdeal.Gen.frame m ρ,
  fun m ρ _ => Cert.Gateup.Result.frame m ρ, fun m ρ _ => Cert.GateupIdeal.Result.frame m ρ,
  fun m ρ _ => Cert.GateupRefIdeal.Gen.frame m ρ,
  fun m ρ _ => Cert.Oproj.Result.frame m ρ, fun m ρ _ => Cert.OprojIdeal.Result.frame m ρ,
  fun m ρ _ => Cert.OprojRefIdeal.Gen.frame m ρ,
  fun m ρ _ => Cert.Qkv.Gen.frame m ρ, fun m ρ _ => Cert.QkvIdeal.Gen.frame m ρ,
  fun m ρ _ => Cert.QkvRefIdeal.Gen.frame m ρ,
  trivial, algebraic_down, trivial, algebraic_gateup, preserves_oproj, algebraic_oproj,
  trivial, algebraic_qkv⟩

end Cert.Proof

end
